-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S4x32x4224 : Shape := ⟨3, ![4, 32, 4224]⟩
abbrev S256x4096 : Shape := ⟨2, ![256, 4096]⟩
abbrev S256x1 : Shape := ⟨2, ![256, 1]⟩
abbrev S2 : Shape := ⟨1, ![2]⟩
abbrev S4 : Shape := ⟨1, ![4]⟩
abbrev S1 : Shape := ⟨1, ![1]⟩
abbrev S_ : Shape := ⟨0, ![]⟩
abbrev S32x512 : Shape := ⟨2, ![32, 512]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S32x4224 : Shape := ⟨2, ![32, 4224]⟩
abbrev S1x32x4224 : Shape := ⟨3, ![1, 32, 4224]⟩

abbrev nBuf : Space → Nat
  | .hbm => 3
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x8192, .f32⟩
  | .local _ .vmem, ⟨1, _⟩ => ⟨S256x512, .f32⟩
  | .local _ .vmem, ⟨2, _⟩ => ⟨S512x4096, .f32⟩
  | .local _ .vmem, ⟨3, _⟩ => ⟨S4x32x4224, .bf16⟩
  | .local _ .vmem, ⟨4, _⟩ => ⟨S4x32x4224, .bf16⟩
  | .local _ .vmem, ⟨5, _⟩ => ⟨S4x32x4224, .bf16⟩
  | .local _ .vmem, ⟨6, _⟩ => ⟨S256x4096, .f32⟩
  | .local _ .vmem, ⟨7, _⟩ => ⟨S256x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_10 : BitVec 32 := 8#32
  let v22 : BitVec 32 := Scalar.muli v9 c8_i32_10
  let v23 : BitVec 32 := Scalar.addi c0_i32_11 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev2 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v28 : BitVec 32 := Scalar.muli v2 c8_i32_15
  let v29 : BitVec 32 := Scalar.addi c0_i32_16 v28
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_17 : BitVec 32 := 4#32
  let v30 : BitVec 32 := Scalar.muli v10 c4_i32_17
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v32 : BitVec 32 := Scalar.muli v8 c1_i32_18
  let v33 : BitVec 32 := Scalar.addi v31 v32
  v33.toNat
def k0_off1 (d0 : Dev nD) (c0_i32_23 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v14 : BitVec 32 := Scalar.muli v5 c128_i32
  let v40 : BitVec 32 := Scalar.addi v14 c0_i32_23
  let v41 : Index := Scalar.indexCast v40
  let c0_24 : Index := 0#32
  ![v41.toNat, 0]
def k0_dev3 (d0 : Dev nD) : Nat :=
  let c0_i32_34 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_33 : BitVec 32 := 8#32
  let v56 : BitVec 32 := Scalar.muli v9 c8_i32_33
  let v57 : BitVec 32 := Scalar.addi c0_i32_34 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v58 : BitVec 32 := Scalar.muli v5 c4_i32_35
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v60 : BitVec 32 := Scalar.muli v8 c1_i32_36
  let v61 : BitVec 32 := Scalar.addi v59 v60
  v61.toNat
def k0_off2 (d0 : Dev nD) (c0_i32_23 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v14 : BitVec 32 := Scalar.muli v5 c128_i32
  let v40 : BitVec 32 := Scalar.addi v14 c0_i32_23
  let v70 : Index := Scalar.indexCast v40
  let c0_41 : Index := 0#32
  ![v70.toNat, 0]
def k0_off3 (d0 : Dev nD) (c0_i32_23 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v14 : BitVec 32 := Scalar.muli v5 c128_i32
  let v40 : BitVec 32 := Scalar.addi v14 c0_i32_23
  let v74 : Index := Scalar.indexCast v40
  let c0_42 : Index := 0#32
  ![v74.toNat, 0]
def k0_dev4 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v94 : BitVec 32 := Scalar.muli v9 c8_i32_52
  let v95 : BitVec 32 := Scalar.addi c0_i32_53 v94
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v96 : BitVec 32 := Scalar.muli v5 c4_i32_54
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v98 : BitVec 32 := Scalar.muli v8 c1_i32_55
  let v99 : BitVec 32 := Scalar.addi v97 v98
  v99.toNat
def k0_dev5 (d0 : Dev nD) : Nat :=
  let c0_i32_72 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_71 : BitVec 32 := 8#32
  let v132 : BitVec 32 := Scalar.muli v9 c8_i32_71
  let v133 : BitVec 32 := Scalar.addi c0_i32_72 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v134 : BitVec 32 := Scalar.muli v5 c4_i32_73
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v136 : BitVec 32 := Scalar.muli v8 c1_i32_74
  let v137 : BitVec 32 := Scalar.addi v135 v136
  v137.toNat
def k0_dev6 (d0 : Dev nD) : Nat :=
  let c0_i32_90 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_89 : BitVec 32 := 8#32
  let v170 : BitVec 32 := Scalar.muli v9 c8_i32_89
  let v171 : BitVec 32 := Scalar.addi c0_i32_90 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v172 : BitVec 32 := Scalar.muli v5 c4_i32_91
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v174 : BitVec 32 := Scalar.muli v8 c1_i32_92
  let v175 : BitVec 32 := Scalar.addi v173 v174
  v175.toNat
def k0_off4 (d0 : Dev nD) (c0_i32_99 : BitVec 32) : Fin 2 → Nat :=
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c128_i32_7 : BitVec 32 := 128#32
  let v16 : BitVec 32 := Scalar.muli v15 c128_i32_7
  let v192 : BitVec 32 := Scalar.addi v16 c0_i32_99
  let v193 : Index := Scalar.indexCast v192
  let c0_100 : Index := 0#32
  ![v193.toNat, 0]
def k0_off5 (d0 : Dev nD) (c0_i32_99 : BitVec 32) : Fin 2 → Nat :=
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c128_i32_7 : BitVec 32 := 128#32
  let v16 : BitVec 32 := Scalar.muli v15 c128_i32_7
  let v192 : BitVec 32 := Scalar.addi v16 c0_i32_99
  let v200 : Index := Scalar.indexCast v192
  let c0_103 : Index := 0#32
  ![v200.toNat, 0]
def k0_off6 (d0 : Dev nD) (c0_i32_99 : BitVec 32) : Fin 2 → Nat :=
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c128_i32_7 : BitVec 32 := 128#32
  let v16 : BitVec 32 := Scalar.muli v15 c128_i32_7
  let v192 : BitVec 32 := Scalar.addi v16 c0_i32_99
  let v204 : Index := Scalar.indexCast v192
  let c0_104 : Index := 0#32
  ![v204.toNat, 0]
def k0_dev7 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v268 : BitVec 32 := Scalar.muli v2 c8_i32_139
  let v269 : BitVec 32 := Scalar.addi c0_i32_140 v268
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_141 : BitVec 32 := 4#32
  let v270 : BitVec 32 := Scalar.muli v10 c4_i32_141
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v272 : BitVec 32 := Scalar.muli v8 c1_i32_142
  let v273 : BitVec 32 := Scalar.addi v271 v272
  v273.toNat
def k0_off7 (d0 : Dev nD) (c0_i32_147 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v14 : BitVec 32 := Scalar.muli v5 c128_i32
  let v282 : BitVec 32 := Scalar.addi v14 c0_i32_147
  let v299 : Index := Scalar.indexCast v282
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v11 : BitVec 32 := Scalar.muli v2 c4096_i32
  let v300 : Index := Scalar.indexCast v11
  ![v299.toNat, v300.toNat]
def k0_off8 (d0 : Dev nD) (c0_i32_147 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v14 : BitVec 32 := Scalar.muli v5 c128_i32
  let v282 : BitVec 32 := Scalar.addi v14 c0_i32_147
  let v304 : Index := Scalar.indexCast v282
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c4096_i32_5 : BitVec 32 := 4096#32
  let v13 : BitVec 32 := Scalar.muli v12 c4096_i32_5
  let v305 : Index := Scalar.indexCast v13
  ![v304.toNat, v305.toNat]
def k0_dev8 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v319 : BitVec 32 := Scalar.muli v2 c8_i32_170
  let v320 : BitVec 32 := Scalar.addi c0_i32_171 v319
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_172 : BitVec 32 := 4#32
  let v321 : BitVec 32 := Scalar.muli v10 c4_i32_172
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v323 : BitVec 32 := Scalar.muli v8 c1_i32_173
  let v324 : BitVec 32 := Scalar.addi v322 v323
  v324.toNat
def k0_dev9 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v370 : BitVec 32 := Scalar.muli v2 c8_i32_201
  let v371 : BitVec 32 := Scalar.addi c0_i32_202 v370
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_203 : BitVec 32 := 4#32
  let v372 : BitVec 32 := Scalar.muli v10 c4_i32_203
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v374 : BitVec 32 := Scalar.muli v8 c1_i32_204
  let v375 : BitVec 32 := Scalar.addi v373 v374
  v375.toNat
def k0_dev10 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v421 : BitVec 32 := Scalar.muli v2 c8_i32_232
  let v422 : BitVec 32 := Scalar.addi c0_i32_233 v421
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_234 : BitVec 32 := 4#32
  let v423 : BitVec 32 := Scalar.muli v10 c4_i32_234
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v425 : BitVec 32 := Scalar.muli v8 c1_i32_235
  let v426 : BitVec 32 := Scalar.addi v424 v425
  v426.toNat
def k0_off9 (d0 : Dev nD) (c0_i32_259 : BitVec 32) : Fin 2 → Nat :=
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c128_i32_7 : BitVec 32 := 128#32
  let v16 : BitVec 32 := Scalar.muli v15 c128_i32_7
  let v472 : BitVec 32 := Scalar.addi v16 c0_i32_259
  let v489 : Index := Scalar.indexCast v472
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v11 : BitVec 32 := Scalar.muli v2 c4096_i32
  let v490 : Index := Scalar.indexCast v11
  ![v489.toNat, v490.toNat]
def k0_off10 (d0 : Dev nD) (c0_i32_259 : BitVec 32) : Fin 2 → Nat :=
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let c128_i32_7 : BitVec 32 := 128#32
  let v16 : BitVec 32 := Scalar.muli v15 c128_i32_7
  let v472 : BitVec 32 := Scalar.addi v16 c0_i32_259
  let v494 : Index := Scalar.indexCast v472
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c4096_i32_5 : BitVec 32 := 4096#32
  let v13 : BitVec 32 := Scalar.muli v12 c4096_i32_5
  let v495 : Index := Scalar.indexCast v13
  ![v494.toNat, v495.toNat]
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Steps.lean ====
/- The kernel's body cut into five kinds of step, each written once for a chunk `r` of four: the start (local
   copies, barrier, the block of weights), a chunk of the device's own rows computed and sent, a chunk of the other
   rows computed, a chunk of its own rows received, forwarded and finished, a chunk of the other rows received and
   finished, and the last waits of a chunk's two sends. `body_eq` says the printed body is these steps in order. -/
module

public import proofs.«01_k».proof.Proof.Gen.KernelIdeal.Skeleton
public import proofs.«01_k».proof.Proof.Gen.KernelIdeal.Points

@[expose] public section

set_option synthInstance.maxSize 4096

noncomputable section

namespace Cert.KernelIdeal.Gen

open Idealize.ShloMosaic Idealize.SL.Sem

variable {F : FTy → Type} [FloatOps F]

/-! ## The chunks' rectangles, views and semaphores -/

theorem slot_inb : ∀ r : Fin 4, ∀ a, (![r.val, 0, 0] : Fin 3 → Nat) a + S1x32x4224.size a ≤ S4x32x4224.size a := by decide
theorem sem_inb : ∀ r : Fin 4, ∀ a, (![r.val] : Fin 1 → Nat) a + S1.size a ≤ S4.size a := by decide

/-- Slot `r` of a four-slot packed buffer. -/
abbrev slotR (r : Fin 4) : Rect S4x32x4224 := Rect.unit (s := S4x32x4224) ![r.val, 0, 0] S1x32x4224.size (slot_inb r)

theorem slot_packed : ∀ r : Fin 4, (slotR r).PackedRows (EltTy.packing .bf16) := fun
  | 0 => packedbf16_S4x32x4224_S1x32x4224_0_0_0 | 1 => packedbf16_S4x32x4224_S1x32x4224_1_0_0
  | 2 => packedbf16_S4x32x4224_S1x32x4224_2_0_0 | 3 => packedbf16_S4x32x4224_S1x32x4224_3_0_0
theorem slot_words : ∀ r : Fin 4, (slotR r).WholeWords (EltTy.packing .bf16) := fun
  | 0 => wordsbf16_S4x32x4224_S1x32x4224_0_0_0 | 1 => wordsbf16_S4x32x4224_S1x32x4224_1_0_0
  | 2 => wordsbf16_S4x32x4224_S1x32x4224_2_0_0 | 3 => wordsbf16_S4x32x4224_S1x32x4224_3_0_0

/-- The kernel's buffers: inputs, output staging, scratch. -/
abbrev bufX : Memref sig .tc .vmem S256x512 .f32 := Memref.whole cc0_scratch0
abbrev bufW : Memref sig .tc .vmem S512x4096 .f32 := Memref.whole cc0_scratch1
abbrev bufS : Memref sig .tc .vmem S4x32x4224 .bf16 := Memref.whole cc0_scratch2
abbrev bufRx : Memref sig .tc .vmem S4x32x4224 .bf16 := Memref.whole cc0_scratch3
abbrev bufRy : Memref sig .tc .vmem S4x32x4224 .bf16 := Memref.whole cc0_scratch4
abbrev bufE : Memref sig .tc .vmem S256x4096 .f32 := Memref.whole cc0_scratch5
abbrev bufT : Memref sig .tc .vmem S256x1 .f32 := Memref.whole cc0_scratch6
abbrev hbmX : Memref sig .tc .hbm S256x512 .f32 := Memref.whole main_arg0
abbrev hbmW : Memref sig .tc .hbm S512x4096 .f32 := Memref.whole main_arg1
abbrev bufO : Memref sig .tc .vmem S256x8192 .f32 := Memref.whole cc0_stg0_0

/-- Slot `r` of a packed buffer as a memref. -/
abbrev slotM (m : Memref sig .tc .vmem S4x32x4224 .bf16) (r : Fin 4) : Memref sig .tc .vmem S32x4224 .bf16 :=
  (m.slice (slotR r) (fun _ => rfl)).squeeze S32x4224 squeezes_S1x32x4224_S32x4224

/-- Semaphore `r` of an array of four. -/
abbrev semAt (a : DmaSems sig S4) (r : Fin 4) : DmaSem sig :=
  ((a.slice (Rect.unit (s := S4) ![r.val] S1.size (sem_inb r))).squeeze S_ squeezes_S1_S_).sem
abbrev semIn0 : DmaSem sig := ((cc0_scratch7.slice (Rect.unit (s := S2) ![0] S1.size inb_S2_S1_0)).squeeze S_ squeezes_S1_S_).sem
abbrev semIn1 : DmaSem sig := ((cc0_scratch7.slice (Rect.unit (s := S2) ![1] S1.size inb_S2_S1_1)).squeeze S_ squeezes_S1_S_).sem

/-- The row constant of chunk `r`. -/
abbrev rw32 (r : Fin 4) : BitVec 32 := BitVec.ofNat 32 (32 * r.val)

/-- The device chunk `r` is sent to, as printed: across x, then across y. -/
abbrev sendDev (d : Dev nD) : Fin 4 → Dev nD := fun
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
abbrev fwdDev (d : Dev nD) : Fin 4 → Dev nD := fun
  | 0 => ⟨k0_dev7 d, k0_dev7_lt d⟩ | 1 => ⟨k0_dev8 d, k0_dev8_lt d⟩ | 2 => ⟨k0_dev9 d, k0_dev9_lt d⟩ | 3 => ⟨k0_dev10 d, k0_dev10_lt d⟩

theorem slotM_exact (m : Memref sig .tc .vmem S4x32x4224 .bf16) (hm : m.IsWhole) (r : Fin 4) : (slotM m r).view.WordExact :=
  (hm.wordExact_slice rfl _ (slot_words r)).reshape _ _

/-! ## The steps -/

abbrev TProg (F : FTy → Type) [FloatOps F] (α : Type) := Prog (TpuEff nD τ sig (Elt F) Λ₀ .tc) α

/-- The start: both inputs copied in, the partners across x and across y signalled, both signals and both copies
    awaited, the block of weights read. -/
def start (d0 : Dev nD) : TProg F (Vec F S512x4096 .f32) := do
  Prog.lift (.enqueueDma hbmW (.here bufW) (.dma semIn0) (Memref.isWhole_whole _).wordExact (Memref.isWhole_whole _).wordExact ⟨Or.inl rfl, trivial⟩)
  Prog.lift (.enqueueDma hbmX (.here bufX) (.dma semIn1) (Memref.isWhole_whole _).wordExact (Memref.isWhole_whole _).wordExact ⟨Or.inl rfl, trivial⟩)
  semSignalWord (⟨k0_dev1 d0, k0_dev1_lt d0⟩ : Dev nD) barrier0 1#32
  semSignalWord (⟨k0_dev2 d0, k0_dev2_lt d0⟩ : Dev nD) barrier0 1#32
  semWaitWord barrier0 2#32
  Prog.lift (.waitDma2 semIn0 hbmW bufW (Memref.isWhole_whole _).wordExact (Memref.isWhole_whole _).wordExact)
  Prog.lift (.waitDma2 semIn1 hbmX bufX (Memref.isWhole_whole _).wordExact (Memref.isWhole_whole _).wordExact)
  Prog.lift (.load bufW (Rect.unit (s := S512x4096) ![0, 0] S512x4096.size inb_S512x4096_S512x4096_0_0).toLoadRect (View.loadsAt_vmem h_S512x4096))

/-- Chunk `r` of the device's own rows: computed, packed, sent across x, stored. -/
def ownStep (d0 : Dev nD) (w : Vec F S512x4096 .f32) (r : Fin 4) : TProg F PUnit := do
  let x : Vec F S32x512 .f32 ← Prog.lift (.load bufX (Rect.unit (s := S256x512) (k0_off1 d0 (rw32 r)) S32x512.size (k0_off1_inb d0 r)).toLoadRect (View.loadsAt_vmem h_S32x512))
  let _ : Vec F S1x32x4224 .bf16 ← Prog.lift (.load bufS (slotR r).toLoadRect (View.loadsAt_vmem h_S1x32x4224))
  Prog.lift (.store bufS (slotR r) (k0_pay9 (k0_pay1 w) x) Finset.univ (View.stores_vmem h_S1x32x4224 ((Memref.isWhole_whole _).storeExact_slice rfl _ (slot_packed r)) (fun _ => rfl)) (.inl rfl))
  Prog.lift (.enqueueDma (slotM bufS r) (.remote (Dev.tc (sendDev d0 r)) (slotM bufRx r) (.dma (semAt cc0_scratch8 r))) (.dma (semAt cc0_scratch9 r)) (slotM_exact _ (Memref.isWhole_whole _) r) (slotM_exact _ (Memref.isWhole_whole _) r) ⟨⟨rfl, Or.inl rfl⟩, trivial⟩)
  let _ : Vec F S32x4096 .f32 ← Prog.lift (.load bufE (Rect.unit (s := S256x4096) (k0_off2 d0 (rw32 r)) S32x4096.size (k0_off2_inb d0 r)).toLoadRect (View.loadsAt_vmem h_S32x4096))
  Prog.lift (.store bufE (Rect.unit (s := S256x4096) (k0_off2 d0 (rw32 r)) S32x4096.size (k0_off2_inb d0 r)) (k0_pay10 (k0_pay7 (k0_pay1 w) x)) Finset.univ (View.stores_vmem_bits_univ h_S32x4096 rfl) (.inl rfl))
  let _ : Vec F S32x1 .f32 ← Prog.lift (.load bufT (Rect.unit (s := S256x1) (k0_off3 d0 (rw32 r)) S32x1.size (k0_off3_inb d0 r)).toLoadRect (View.loadsAt_vmem h_S32x1))
  Prog.lift (.store bufT (Rect.unit (s := S256x1) (k0_off3 d0 (rw32 r)) S32x1.size (k0_off3_inb d0 r)) (k0_pay11 (k0_pay8 (k0_pay1 w) x)) Finset.univ (View.stores_vmem_bits_univ h_S32x1 rfl) (.inl rfl))

/-- Chunk `r` of the other rows: computed and stored. -/
def othStep (d0 : Dev nD) (w : Vec F S512x4096 .f32) (r : Fin 4) : TProg F PUnit := do
  let x : Vec F S32x512 .f32 ← Prog.lift (.load bufX (Rect.unit (s := S256x512) (k0_off4 d0 (rw32 r)) S32x512.size (k0_off4_inb d0 r)).toLoadRect (View.loadsAt_vmem h_S32x512))
  let _ : Vec F S32x4096 .f32 ← Prog.lift (.load bufE (Rect.unit (s := S256x4096) (k0_off5 d0 (rw32 r)) S32x4096.size (k0_off5_inb d0 r)).toLoadRect (View.loadsAt_vmem h_S32x4096))
  Prog.lift (.store bufE (Rect.unit (s := S256x4096) (k0_off5 d0 (rw32 r)) S32x4096.size (k0_off5_inb d0 r)) (k0_pay10 (k0_pay7 (k0_pay1 w) x)) Finset.univ (View.stores_vmem_bits_univ h_S32x4096 rfl) (.inl rfl))
  let _ : Vec F S32x1 .f32 ← Prog.lift (.load bufT (Rect.unit (s := S256x1) (k0_off6 d0 (rw32 r)) S32x1.size (k0_off6_inb d0 r)).toLoadRect (View.loadsAt_vmem h_S32x1))
  Prog.lift (.store bufT (Rect.unit (s := S256x1) (k0_off6 d0 (rw32 r)) S32x1.size (k0_off6_inb d0 r)) (k0_pay11 (k0_pay8 (k0_pay1 w) x)) Finset.univ (View.stores_vmem_bits_univ h_S32x1 rfl) (.inl rfl))

/-- Chunk `r` of the own rows received across x: forwarded across y, finished with the local half. -/
def finStep (O : Memref sig .tc .vmem S256x8192 .f32) (d0 : Dev nD) (r : Fin 4) : TProg F PUnit := do
  Prog.lift (.waitDma2 (semAt cc0_scratch9 r) (slotM bufS r) (slotM bufRx r) (slotM_exact _ (Memref.isWhole_whole _) r) (slotM_exact _ (Memref.isWhole_whole _) r))
  Prog.lift (.enqueueDma (slotM bufRx r) (.remote (Dev.tc (fwdDev d0 r)) (slotM bufRy r) (.dma (semAt cc0_scratch10 r))) (.dma (semAt cc0_scratch11 r)) (slotM_exact _ (Memref.isWhole_whole _) r) (slotM_exact _ (Memref.isWhole_whole _) r) ⟨⟨rfl, Or.inl rfl⟩, trivial⟩)
  let p : Vec F S1x32x4224 .bf16 ← Prog.lift (.load bufRx (slotR r).toLoadRect (View.loadsAt_vmem h_S1x32x4224))
  let s : Vec F S32x1 .f32 ← Prog.lift (.load bufT (Rect.unit (s := S256x1) (k0_off3 d0 (rw32 r)) S32x1.size (k0_off3_inb d0 r)).toLoadRect (View.loadsAt_vmem h_S32x1))
  let e : Vec F S32x4096 .f32 ← Prog.lift (.load bufE (Rect.unit (s := S256x4096) (k0_off2 d0 (rw32 r)) S32x4096.size (k0_off2_inb d0 r)).toLoadRect (View.loadsAt_vmem h_S32x4096))
  let _ : Vec F S32x4096 .f32 ← Prog.lift (.load O (Rect.unit (s := S256x8192) (k0_off7 d0 (rw32 r)) S32x4096.size (k0_off7_inb d0 r)).toLoadRect (View.loadsAt_vmem h_S32x4096))
  Prog.lift (.store O (Rect.unit (s := S256x8192) (k0_off7 d0 (rw32 r)) S32x4096.size (k0_off7_inb d0 r)) (k0_pay37 p s e) Finset.univ (View.stores_vmem_bits_univ h_S32x4096 rfl) (.inl rfl))
  let _ : Vec F S32x4096 .f32 ← Prog.lift (.load O (Rect.unit (s := S256x8192) (k0_off8 d0 (rw32 r)) S32x4096.size (k0_off8_inb d0 r)).toLoadRect (View.loadsAt_vmem h_S32x4096))
  Prog.lift (.store O (Rect.unit (s := S256x8192) (k0_off8 d0 (rw32 r)) S32x4096.size (k0_off8_inb d0 r)) (k0_pay38 p s) Finset.univ (View.stores_vmem_bits_univ h_S32x4096 rfl) (.inl rfl))

/-- Chunk `r` of the other rows received across y: finished with the local half. -/
def lastStep (O : Memref sig .tc .vmem S256x8192 .f32) (d0 : Dev nD) (r : Fin 4) : TProg F PUnit := do
  Prog.lift (.waitDma2 (semAt cc0_scratch11 r) (slotM bufRx r) (slotM bufRy r) (slotM_exact _ (Memref.isWhole_whole _) r) (slotM_exact _ (Memref.isWhole_whole _) r))
  let p : Vec F S1x32x4224 .bf16 ← Prog.lift (.load bufRy (slotR r).toLoadRect (View.loadsAt_vmem h_S1x32x4224))
  let s : Vec F S32x1 .f32 ← Prog.lift (.load bufT (Rect.unit (s := S256x1) (k0_off6 d0 (rw32 r)) S32x1.size (k0_off6_inb d0 r)).toLoadRect (View.loadsAt_vmem h_S32x1))
  let e : Vec F S32x4096 .f32 ← Prog.lift (.load bufE (Rect.unit (s := S256x4096) (k0_off5 d0 (rw32 r)) S32x4096.size (k0_off5_inb d0 r)).toLoadRect (View.loadsAt_vmem h_S32x4096))
  let _ : Vec F S32x4096 .f32 ← Prog.lift (.load O (Rect.unit (s := S256x8192) (k0_off9 d0 (rw32 r)) S32x4096.size (k0_off9_inb d0 r)).toLoadRect (View.loadsAt_vmem h_S32x4096))
  Prog.lift (.store O (Rect.unit (s := S256x8192) (k0_off9 d0 (rw32 r)) S32x4096.size (k0_off9_inb d0 r)) (k0_pay37 p s e) Finset.univ (View.stores_vmem_bits_univ h_S32x4096 rfl) (.inl rfl))
  let _ : Vec F S32x4096 .f32 ← Prog.lift (.load O (Rect.unit (s := S256x8192) (k0_off10 d0 (rw32 r)) S32x4096.size (k0_off10_inb d0 r)).toLoadRect (View.loadsAt_vmem h_S32x4096))
  Prog.lift (.store O (Rect.unit (s := S256x8192) (k0_off10 d0 (rw32 r)) S32x4096.size (k0_off10_inb d0 r)) (k0_pay38 p s) Finset.univ (View.stores_vmem_bits_univ h_S32x4096 rfl) (.inl rfl))

/-- The two sends of chunk `r` awaited. -/
def drainStep (r : Fin 4) : TProg F PUnit := do
  Prog.lift (.waitDma2 (semAt cc0_scratch8 r) (slotM bufRx r) (slotM bufS r) (slotM_exact _ (Memref.isWhole_whole _) r) (slotM_exact _ (Memref.isWhole_whole _) r))
  Prog.lift (.waitDma2 (semAt cc0_scratch10 r) (slotM bufRy r) (slotM bufRx r) (slotM_exact _ (Memref.isWhole_whole _) r) (slotM_exact _ (Memref.isWhole_whole _) r))

/-- The whole body as its steps. -/
def bodySteps (O : Memref sig .tc .vmem S256x8192 .f32) : TProg F PUnit := do
  let d0 : Dev nD ← Prog.lift .deviceId
  let w ← start d0
  ownStep d0 w 0; ownStep d0 w 1; ownStep d0 w 2; ownStep d0 w 3
  othStep d0 w 0; othStep d0 w 1; othStep d0 w 2; othStep d0 w 3
  finStep O d0 0; finStep O d0 1; finStep O d0 2; finStep O d0 3
  lastStep O d0 0; lastStep O d0 1; lastStep O d0 2; lastStep O d0 3
  drainStep 0; drainStep 1; drainStep 2; drainStep 3

set_option maxRecDepth 65536 in
set_option maxHeartbeats 4000000 in
/-- The printed body is its steps. -/
theorem body_eq (O : Memref sig .tc .vmem S256x8192 .f32) (hO : O.IsWhole) :
    cc0_body (F := F) hbmX (Memref.isWhole_whole _) hbmW (Memref.isWhole_whole _) O hO bufX (Memref.isWhole_whole _) bufW (Memref.isWhole_whole _)
      bufS (Memref.isWhole_whole _) bufRx (Memref.isWhole_whole _) bufRy (Memref.isWhole_whole _) bufE (Memref.isWhole_whole _) bufT (Memref.isWhole_whole _)
      cc0_scratch7 cc0_scratch8 cc0_scratch9 cc0_scratch10 cc0_scratch11 = bodySteps O := by
  rfl

end Cert.KernelIdeal.Gen

end
-- ==== Proof.Values.lean ====
/- What the kernel computes, chunk by chunk: the partners of a device across x and across y, the eight chunks of 32
   rows, each chunk's exponentials, their row sums and the packed message, and the contents every buffer ends with. -/
module

public import proofs.«01_k».proof.Proof.Steps
public import Idealize.ShloMosaic.Lib.Pointwise.Reshape

@[expose] public section

noncomputable section

namespace Cert.KernelIdeal.Gen

open Idealize.ShloMosaic Idealize.SL.Sem
open Idealize.ShloMosaic.TcCoe

variable {F : FTy → Type} [FloatOps F]

/-! ## The partners and the chunks -/

theorem xp_lt : ∀ c : Dev nD, (4 * ((c.val / 4) % 2) + (c.val % 4) + 8) - 8 * (c.val / 8) < nD := by decide
theorem yp_lt : ∀ c : Dev nD, (8 * (c.val / 8) + (c.val % 4) + 4) - 4 * ((c.val / 4) % 2) < nD := by decide
/-- The partner across x, and across y. -/
def xp (c : Dev nD) : Dev nD := ⟨(4 * ((c.val / 4) % 2) + (c.val % 4) + 8) - 8 * (c.val / 8), xp_lt c⟩
def yp (c : Dev nD) : Dev nD := ⟨(8 * (c.val / 8) + (c.val % 4) + 4) - 4 * ((c.val / 4) % 2), yp_lt c⟩

theorem xp_xp : ∀ c : Dev nD, xp (xp c) = c := by decide
theorem yp_yp : ∀ c : Dev nD, yp (yp c) = c := by decide
theorem xp_yp : ∀ c : Dev nD, xp (yp c) = yp (xp c) := by decide

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem sendDev_eq (c : Dev nD) : ∀ r : Fin 4, sendDev c r = xp c := fun
  | 0 => Fin.ext (k0_dev3_eq c) | 1 => Fin.ext (k0_dev4_eq c) | 2 => Fin.ext (k0_dev5_eq c) | 3 => Fin.ext (k0_dev6_eq c)
theorem fwdDev_eq (c : Dev nD) : ∀ r : Fin 4, fwdDev c r = yp c := fun
  | 0 => Fin.ext (k0_dev7_eq c) | 1 => Fin.ext (k0_dev8_eq c) | 2 => Fin.ext (k0_dev9_eq c) | 3 => Fin.ext (k0_dev10_eq c)

/-- Chunk `r` of a device's own rows, and of the other rows, among the eight chunks of 32 rows. -/
def ownb (c : Dev nD) (r : Fin 4) : Fin 8 := ⟨4 * ((c.val / 4) % 2) + r.val, by have := r.isLt; omega⟩
def othb (c : Dev nD) (r : Fin 4) : Fin 8 := ⟨4 - 4 * ((c.val / 4) % 2) + r.val, by have := r.isLt; omega⟩
/-- The half of the columns a device computes, and the other half. -/
def hown (c : Dev nD) : Fin 2 := ⟨c.val / 8, by have := c.isLt; have h : nD = 16 := rfl; omega⟩
def hoth (c : Dev nD) : Fin 2 := ⟨1 - c.val / 8, by omega⟩

theorem ownb_xp : ∀ (c : Dev nD) (r : Fin 4), ownb (xp c) r = ownb c r := by decide
theorem ownb_yp : ∀ (c : Dev nD) (r : Fin 4), ownb (yp c) r = othb c r := by decide
theorem hoth_ne : ∀ c : Dev nD, hoth c ≠ hown c := by decide
theorem ownb_row : ∀ (c : Dev nD) (r : Fin 4), (ownb c r).val / 4 = (c.val / 4) % 2 := by decide
theorem othb_row : ∀ (c : Dev nD) (r : Fin 4), ¬ (othb c r).val / 4 = (c.val / 4) % 2 := by decide

/-! ## The rectangles of the chunks -/

theorem blkX_inb : ∀ (b : Fin 8) a, (![32 * b.val, 0] : Fin 2 → Nat) a + S32x512.size a ≤ S256x512.size a := by decide
theorem blkE_inb : ∀ (b : Fin 8) a, (![32 * b.val, 0] : Fin 2 → Nat) a + S32x4096.size a ≤ S256x4096.size a := by decide
theorem blkT_inb : ∀ (b : Fin 8) a, (![32 * b.val, 0] : Fin 2 → Nat) a + S32x1.size a ≤ S256x1.size a := by decide
theorem blkO_inb : ∀ (b : Fin 8) (h : Fin 2) a, (![32 * b.val, 4096 * h.val] : Fin 2 → Nat) a + S32x4096.size a ≤ S256x8192.size a := by decide

abbrev blkX (b : Fin 8) : Rect S256x512 := Rect.unit (s := S256x512) ![32 * b.val, 0] S32x512.size (blkX_inb b)
abbrev blkE (b : Fin 8) : Rect S256x4096 := Rect.unit (s := S256x4096) ![32 * b.val, 0] S32x4096.size (blkE_inb b)
abbrev blkT (b : Fin 8) : Rect S256x1 := Rect.unit (s := S256x1) ![32 * b.val, 0] S32x1.size (blkT_inb b)
abbrev blkO (b : Fin 8) (h : Fin 2) : Rect S256x8192 := Rect.unit (s := S256x8192) ![32 * b.val, 4096 * h.val] S32x4096.size (blkO_inb b h)

theorem off_own (c : Dev nD) (r : Fin 4) : 128 * ((c.val / 4) % 2) + 32 * r.val = 32 * (ownb c r).val := by
  show _ = 32 * (4 * ((c.val / 4) % 2) + r.val); omega
theorem off_oth (c : Dev nD) (r : Fin 4) : (32 * r.val + 128) - 128 * ((c.val / 4) % 2) = 32 * (othb c r).val := by
  show _ = 32 * (4 - 4 * ((c.val / 4) % 2) + r.val); omega
theorem off_hoth (c : Dev nD) : 4096 - 4096 * (c.val / 8) = 4096 * (hoth c).val := by
  show _ = 4096 * (1 - c.val / 8); omega

theorem off1_eq (c : Dev nD) (r : Fin 4) : k0_off1 c (rw32 r) = ![32 * (ownb c r).val, 0] := by rw [← off_own]; exact k0_off1_eq c r
theorem off2_eq (c : Dev nD) (r : Fin 4) : k0_off2 c (rw32 r) = ![32 * (ownb c r).val, 0] := by rw [← off_own]; exact k0_off2_eq c r
theorem off3_eq (c : Dev nD) (r : Fin 4) : k0_off3 c (rw32 r) = ![32 * (ownb c r).val, 0] := by rw [← off_own]; exact k0_off3_eq c r
theorem off4_eq (c : Dev nD) (r : Fin 4) : k0_off4 c (rw32 r) = ![32 * (othb c r).val, 0] := by rw [← off_oth]; exact k0_off4_eq c r
theorem off5_eq (c : Dev nD) (r : Fin 4) : k0_off5 c (rw32 r) = ![32 * (othb c r).val, 0] := by rw [← off_oth]; exact k0_off5_eq c r
theorem off6_eq (c : Dev nD) (r : Fin 4) : k0_off6 c (rw32 r) = ![32 * (othb c r).val, 0] := by rw [← off_oth]; exact k0_off6_eq c r
theorem off7_eq (c : Dev nD) (r : Fin 4) : k0_off7 c (rw32 r) = ![32 * (ownb c r).val, 4096 * (hown c).val] := by rw [← off_own]; exact k0_off7_eq c r
theorem off8_eq (c : Dev nD) (r : Fin 4) : k0_off8 c (rw32 r) = ![32 * (ownb c r).val, 4096 * (hoth c).val] := by rw [← off_own, ← off_hoth]; exact k0_off8_eq c r
theorem off9_eq (c : Dev nD) (r : Fin 4) : k0_off9 c (rw32 r) = ![32 * (othb c r).val, 4096 * (hown c).val] := by rw [← off_oth]; exact k0_off9_eq c r
theorem off10_eq (c : Dev nD) (r : Fin 4) : k0_off10 c (rw32 r) = ![32 * (othb c r).val, 4096 * (hoth c).val] := by rw [← off_oth, ← off_hoth]; exact k0_off10_eq c r

/-! ## The values -/

variable (m : (ℓ : Loc nD τ sig) → Buf (Elt F) ℓ)

/-- Device `c`'s two arguments at launch. -/
def xin (c : Dev nD) : Vec F S256x512 .f32 := m ((c : Thread nD τ).loc main_arg0)
def win (c : Dev nD) : Vec F S512x4096 .f32 := m ((c : Thread nD τ).loc main_arg1)

/-- Chunk `b` of the rows. -/
def xch (c : Dev nD) (b : Fin 8) : Vec F S32x512 .f32 := fun j => xin m c ((blkX b).emb j)
/-- Chunk `b`'s exponentials, row sums and packed message on device `c`. -/
def ech (c : Dev nD) (b : Fin 8) : Vec F S32x4096 .f32 := k0_pay7 (k0_pay1 (win m c)) (xch m c b)
def sch (c : Dev nD) (b : Fin 8) : Vec F S32x1 .f32 := k0_pay8 (k0_pay1 (win m c)) (xch m c b)
def pch (c : Dev nD) (b : Fin 8) : Vec F S1x32x4224 .bf16 := k0_pay9 (k0_pay1 (win m c)) (xch m c b)
/-- The device whose packed message finishes chunk `b` on device `c`. -/
def src (c : Dev nD) (b : Fin 8) : Dev nD := if b.val / 4 = (c.val / 4) % 2 then xp c else xp (yp c)
theorem src_own (c : Dev nD) (r : Fin 4) : src c (ownb c r) = xp c := if_pos (ownb_row c r)
theorem src_oth (c : Dev nD) (r : Fin 4) : src c (othb c r) = xp (yp c) := if_neg (othb_row c r)
/-- Half `h` of chunk `b` of the result on device `c`. -/
def och (c : Dev nD) (b : Fin 8) (h : Fin 2) : Vec F S32x4096 .f32 :=
  if h = hown c then k0_pay37 (pch m (src c b) b) (sch m c b) (ech m c b) else k0_pay38 (pch m (src c b) b) (sch m c b)

/-- An index of a buffer within its chunk. -/
def inE (i : S256x4096.Idx) : S32x4096.Idx := fun a => ⟨(i a).val % S32x4096.size a, Nat.mod_lt _ (by revert a; decide)⟩
def inT (i : S256x1.Idx) : S32x1.Idx := fun a => ⟨(i a).val % S32x1.size a, Nat.mod_lt _ (by revert a; decide)⟩
def inO (i : S256x8192.Idx) : S32x4096.Idx := fun a => ⟨(i a).val % S32x4096.size a, Nat.mod_lt _ (by revert a; decide)⟩
def inP (i : S4x32x4224.Idx) : S1x32x4224.Idx := fun a => ⟨(i a).val % S1x32x4224.size a, Nat.mod_lt _ (by revert a; decide)⟩
def bE (i : S256x4096.Idx) : Fin 8 := ⟨(i (0 : Fin 2)).val / 32, by have : (i (0 : Fin 2)).val < 256 := (i (0 : Fin 2)).isLt; omega⟩
def bT (i : S256x1.Idx) : Fin 8 := ⟨(i (0 : Fin 2)).val / 32, by have : (i (0 : Fin 2)).val < 256 := (i (0 : Fin 2)).isLt; omega⟩
def bO (i : S256x8192.Idx) : Fin 8 := ⟨(i (0 : Fin 2)).val / 32, by have : (i (0 : Fin 2)).val < 256 := (i (0 : Fin 2)).isLt; omega⟩
def hO (i : S256x8192.Idx) : Fin 2 := ⟨(i (1 : Fin 2)).val / 4096, by have : (i (1 : Fin 2)).val < 8192 := (i (1 : Fin 2)).isLt; omega⟩

/-- What the buffers end with: exponentials, row sums, packed messages, result. -/
def EV (c : Dev nD) : S256x4096.Idx → Elt F .f32 := fun i => ech m c (bE i) (inE i)
def TV (c : Dev nD) : S256x1.Idx → Elt F .f32 := fun i => sch m c (bT i) (inT i)
def PV (c : Dev nD) : S4x32x4224.Idx → Elt F .bf16 := fun i => pch m c (ownb c (i (0 : Fin 3))) (inP i)
def OV (c : Dev nD) : S256x8192.Idx → Elt F .f32 := fun i => och m c (bO i) (hO i) (inO i)

theorem EV_emb (c : Dev nD) (b : Fin 8) (j : S32x4096.Idx) : EV m c ((blkE b).emb j) = ech m c b j := by
  have h1 : bE ((blkE b).emb j) = b := Fin.ext (by
    have : (j (0 : Fin 2)).val < 32 := (j (0 : Fin 2)).isLt
    show (32 * b.val + 1 * (j (0 : Fin 2)).val) / 32 = b.val; omega)
  have h2 : inE ((blkE b).emb j) = j := funext fun a => Fin.ext (by
    fin_cases a
    · have : (j (0 : Fin 2)).val < 32 := (j (0 : Fin 2)).isLt
      show (32 * b.val + 1 * (j (0 : Fin 2)).val) % 32 = (j (0 : Fin 2)).val; omega
    · have : (j (1 : Fin 2)).val < 4096 := (j (1 : Fin 2)).isLt
      show (0 + 1 * (j (1 : Fin 2)).val) % 4096 = (j (1 : Fin 2)).val; omega)
  unfold EV; rw [h1, h2]

theorem TV_emb (c : Dev nD) (b : Fin 8) (j : S32x1.Idx) : TV m c ((blkT b).emb j) = sch m c b j := by
  have h1 : bT ((blkT b).emb j) = b := Fin.ext (by
    have : (j (0 : Fin 2)).val < 32 := (j (0 : Fin 2)).isLt
    show (32 * b.val + 1 * (j (0 : Fin 2)).val) / 32 = b.val; omega)
  have h2 : inT ((blkT b).emb j) = j := funext fun a => Fin.ext (by
    fin_cases a
    · have : (j (0 : Fin 2)).val < 32 := (j (0 : Fin 2)).isLt
      show (32 * b.val + 1 * (j (0 : Fin 2)).val) % 32 = (j (0 : Fin 2)).val; omega
    · have : (j (1 : Fin 2)).val < 1 := (j (1 : Fin 2)).isLt
      show (0 + 1 * (j (1 : Fin 2)).val) % 1 = (j (1 : Fin 2)).val; omega)
  unfold TV; rw [h1, h2]

theorem PV_emb (c : Dev nD) (r : Fin 4) (j : S1x32x4224.Idx) : PV m c ((slotR r).emb j) = pch m c (ownb c r) j := by
  have h0 : (j (0 : Fin 3)).val < 1 := (j (0 : Fin 3)).isLt
  have h1 : ((slotR r).emb j) (0 : Fin 3) = r := Fin.ext (by
    show r.val + 1 * (j (0 : Fin 3)).val = r.val; omega)
  have h2 : inP ((slotR r).emb j) = j := funext fun a => Fin.ext (by
    fin_cases a
    · show (r.val + 1 * (j (0 : Fin 3)).val) % 1 = (j (0 : Fin 3)).val; omega
    · have : (j (1 : Fin 3)).val < 32 := (j (1 : Fin 3)).isLt
      show (0 + 1 * (j (1 : Fin 3)).val) % 32 = (j (1 : Fin 3)).val; omega
    · have : (j (2 : Fin 3)).val < 4224 := (j (2 : Fin 3)).isLt
      show (0 + 1 * (j (2 : Fin 3)).val) % 4224 = (j (2 : Fin 3)).val; omega)
  unfold PV; rw [h1, h2]

theorem OV_emb (c : Dev nD) (b : Fin 8) (h : Fin 2) (j : S32x4096.Idx) : OV m c ((blkO b h).emb j) = och m c b h j := by
  have l0 : (j (0 : Fin 2)).val < 32 := (j (0 : Fin 2)).isLt
  have l1 : (j (1 : Fin 2)).val < 4096 := (j (1 : Fin 2)).isLt
  have h1 : bO ((blkO b h).emb j) = b := Fin.ext (by
    show (32 * b.val + 1 * (j (0 : Fin 2)).val) / 32 = b.val; omega)
  have h3 : hO ((blkO b h).emb j) = h := Fin.ext (by
    show (4096 * h.val + 1 * (j (1 : Fin 2)).val) / 4096 = h.val; omega)
  have h2 : inO ((blkO b h).emb j) = j := funext fun a => Fin.ext (by
    fin_cases a
    · show (32 * b.val + 1 * (j (0 : Fin 2)).val) % 32 = (j (0 : Fin 2)).val; omega
    · show (4096 * h.val + 1 * (j (1 : Fin 2)).val) % 4096 = (j (1 : Fin 2)).val; omega)
  unfold OV; rw [h1, h2, h3]

/-! ## Loads and stores of whole buffers through a rectangle -/

/-- A load of a whole buffer through a rectangle, its offsets in another spelling. -/
theorem readAt_off {b : Ref sig .tc} {off off' size : Fin b.ty.shape.rank → Nat} (h : off = off') (inb : ∀ a, off a + size a ≤ b.ty.shape.size a)
    (inb' : ∀ a, off' a + size a ≤ b.ty.shape.size a) (f : b.ty.Contents (Elt F)) :
    (Memref.whole b).view.readAt (Elt F) (Rect.unit off size inb).toLoadRect f = fun j => f ((Rect.unit off' size inb').emb j) := by
  subst h; rfl

/-- The elements a load or a store through a rectangle of a whole buffer touches, its offsets in another spelling. -/
theorem set_off {b : Ref sig .tc} {off off' size : Fin b.ty.shape.rank → Nat} (h : off = off') (inb : ∀ a, off a + size a ≤ b.ty.shape.size a)
    (inb' : ∀ a, off' a + size a ≤ b.ty.shape.size a) :
    ((Memref.whole b).access (Rect.unit off size inb) : View sig .tc _ _ _).setOn Finset.univ ⊆ (Rect.unit off' size inb').set := by
  subst h; rw [View.setOn_univ]
  exact (View.set_slice_whole b _).subset
theorem load_set_off {b : Ref sig .tc} {off off' size : Fin b.ty.shape.rank → Nat} (h : off = off') (inb : ∀ a, off a + size a ≤ b.ty.shape.size a)
    (inb' : ∀ a, off' a + size a ≤ b.ty.shape.size a) :
    (Memref.whole b).view.setOn (Rect.unit off size inb).toLoadRect.set ⊆ (Rect.unit off' size inb').set := by
  subst h
  intro i hi
  obtain ⟨x, hx, rfl⟩ := Finset.mem_map.mp hi
  exact hx

/-- A store through a rectangle leaves, on the rectangle, any contents that place the stored vector there. -/
theorem write_off {b : Ref sig .tc} {off off' size : Fin b.ty.shape.rank → Nat} (h : off = off') (inb : ∀ a, off a + size a ≤ b.ty.shape.size a)
    (inb' : ∀ a, off' a + size a ≤ b.ty.shape.size a) (f G : b.ty.Contents (Elt F))
    (w : (Rect.unit off size inb).shape.Idx → Elt F b.ty.elt)
    (hw : ∀ j, G ((Rect.unit off' size inb').emb j) = w j) :
    ∀ i ∈ (Rect.unit off' size inb').set,
      ((Memref.whole b).access (Rect.unit off size inb) : View sig .tc _ _ _).write (Elt F) f w Finset.univ i = G i := by
  subst h
  intro i hi
  obtain ⟨j, rfl⟩ := LoadRect.exists_idx_of_mem _ hi
  exact (View.write_emb_of_mem (v := ((Memref.whole b).access (Rect.unit off size inb) : View sig .tc _ _ _)) f w (Finset.mem_univ j)).trans (hw j).symm

theorem pay10_eq (v : FVec F S32x4096 .f32) : k0_pay10 v = v := by
  unfold k0_pay10; exact shapeCast_id v _
theorem pay11_eq (v : FVec F S32x1 .f32) : k0_pay11 v = v := by
  unfold k0_pay11; exact shapeCast_id v _

end Cert.KernelIdeal.Gen

end
-- ==== Proof.Protocol.lean ====
/- The protocol of the kernel's devices. Every device has nineteen cells: the barrier, one per local copy, and per
   chunk the send and receive cells of the transfer across x and of the transfer across y. Each cell has one round.
   A device's barrier is signalled by its partner across x, which hands over its landing buffer for transfers across
   x, and by its partner across y, which hands over its landing buffer for transfers across y. A receive cell hands
   its owner the landing slot holding the sender's packed chunk; a send cell hands the sender its source back. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells and what each is for -/

/-- What a semaphore is for: the barrier, the copies of the weights and of the rows, and for chunk `r` the send and
    receive across x and the send and receive across y. -/
inductive Role | bar | in0 | in1 | xs (r : Fin 4) | xr (r : Fin 4) | fs (r : Fin 4) | fr (r : Fin 4) | other
  deriving DecidableEq

def roleIx : Fin 19 → Role := fun
  | 1 => .in0 | 2 => .in1 | 3 => .xs 0 | 4 => .xs 1 | 5 => .xs 2 | 6 => .xs 3 | 7 => .xr 0 | 8 => .xr 1 | 9 => .xr 2 | 10 => .xr 3
  | 11 => .fs 0 | 12 => .fs 1 | 13 => .fs 2 | 14 => .fs 3 | 15 => .fr 0 | 16 => .fr 1 | 17 => .fr 2 | 18 => .fr 3 | _ => .other
def role : SemLoc sig → Role
  | .reg _ => .bar
  | .dma q => roleIx q

abbrev sBar : SemLoc sig := .reg barrier0
abbrev sIn0 : SemLoc sig := .dma semIn0
abbrev sIn1 : SemLoc sig := .dma semIn1
abbrev sXs (r : Fin 4) : SemLoc sig := .dma (semAt cc0_scratch8 r)
abbrev sXr (r : Fin 4) : SemLoc sig := .dma (semAt cc0_scratch9 r)
abbrev sFs (r : Fin 4) : SemLoc sig := .dma (semAt cc0_scratch10 r)
abbrev sFr (r : Fin 4) : SemLoc sig := .dma (semAt cc0_scratch11 r)

theorem role_bar : role sBar = .bar := rfl
theorem role_in0 : role sIn0 = .in0 := by decide
theorem role_in1 : role sIn1 = .in1 := by decide
theorem role_xs : ∀ r, role (sXs r) = .xs r := by decide
theorem role_xr : ∀ r, role (sXr r) = .xr r := by decide
theorem role_fs : ∀ r, role (sFs r) = .fs r := by decide
theorem role_fr : ∀ r, role (sFr r) = .fr r := by decide

/-- The cell of device `c` at a semaphore. -/
abbrev at_ (c : Dev nD) (sm : SemLoc sig) : GSem nD τ sig := ((c : Thread nD τ), sm)

/-- The credit of one packed slot, of the block of weights and of the rows. -/
abbrev N : ℕ := (slotM bufRx 0).view.dmaCredit
abbrev NW : ℕ := bufW.view.dmaCredit
abbrev NX : ℕ := bufX.view.dmaCredit
theorem N_pos : 0 < N := View.dmaCredit_pos _ (by decide)
theorem NW_pos : 0 < NW := View.dmaCredit_pos _ (by decide)
theorem NX_pos : 0 < NX := View.dmaCredit_pos _ (by decide)

/-! ## The schedule -/

variable (m : (ℓ : Loc nD τ sig) → Buf (Elt F) ℓ)

/-- The packed slot `r` of a buffer of device `c` at contents `f`. -/
abbrev slotPts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

omit [FloatOps F] in
instance slotPts_storable (c : Dev nD) (b : Ref sig .tc) (S q f) : BI.Storable (upEmb : UEmb _ 𝕄) (slotPts (F := F) c b S q f) := by
  infer_instance

abbrev sendPts (c : Dev nD) (r : Fin 4) (f : S4x32x4224.Idx → Elt F .bf16) : sProp 𝕄 := slotPts c cc0_scratch2 (slotR r).set fullShare f
abbrev rxPts (c : Dev nD) (r : Fin 4) (q : PosShare TreeShare) (f : S4x32x4224.Idx → Elt F .bf16) : sProp 𝕄 := slotPts c cc0_scratch3 (slotR r).set q f
abbrev ryPts (c : Dev nD) (r : Fin 4) (f : S4x32x4224.Idx → Elt F .bf16) : sProp 𝕄 := slotPts c cc0_scratch4 (slotR r).set fullShare f
abbrev ePts (c : Dev nD) (b : Fin 8) (f : S256x4096.Idx → Elt F .f32) : sProp 𝕄 := slotPts c cc0_scratch5 (blkE b).set fullShare f
abbrev tPts (c : Dev nD) (b : Fin 8) (f : S256x1.Idx → Elt F .f32) : sProp 𝕄 := slotPts c cc0_scratch6 (blkT b).set fullShare f
abbrev oPts (c : Dev nD) (b : Fin 8) (h : Fin 2) (f : S256x8192.Idx → Elt F .f32) : sProp 𝕄 := slotPts c cc0_stg0_0 (blkO b h).set fullShare f
/-- A whole buffer of device `c`. -/
abbrev allPts (c : Dev nD) (b : Ref sig .tc) (f : Buf (Elt F) ((c : Thread nD τ).loc b)) : sProp 𝕄 := slotPts c b Finset.univ fullShare f

def dutiesOf : Role → Finset Bool
  | .bar => Finset.univ
  | .other => ∅
  | _ => {false}
def amountOf : Role → ℕ
  | .bar => 1
  | .in0 => NW
  | .in1 => NX
  | .other => 1
  | _ => N
theorem amountOf_pos (k : Role) : 0 < amountOf k := by
  cases k <;> first | exact Nat.one_pos | exact N_pos | exact NW_pos | exact NX_pos

def payOf (c : Dev nD) : Role → Bool → sProp 𝕄
  | .bar, false => iprop(∃ f, allPts (xp c) cc0_scratch3 f)
  | .bar, true => iprop(∃ f, allPts (yp c) cc0_scratch4 f)
  | .in0, _ => iprop(allPts c cc0_scratch1 (win m c) ∗ allPts c main_arg1 (win m c))
  | .in1, _ => iprop(allPts c cc0_scratch0 (xin m c) ∗ allPts c main_arg0 (xin m c))
  | .xs r, _ => sendPts c r (PV m c)
  | .xr r, _ => rxPts c r fullShare (PV m (xp c))
  | .fs r, _ => rxPts c r fullShare.left (PV m (xp c))
  | .fr r, _ => ryPts c r (PV m (xp (yp c)))
  | .other, _ => iprop(emp)

instance payOf_storable (c : Dev nD) (k : Role) (d : Bool) : BI.Storable (upEmb : UEmb _ 𝕄) (payOf m c k d) := by
  cases k <;> cases d <;> (unfold payOf; infer_instance)

/-- The schedule: one round a cell, its duties, amounts and payloads by the semaphore's role. -/
def Rd : Rounds.Schedule (GSem nD τ sig) Bool 𝕄 where
  duties g r := if r = 0 ∧ g.1.2 = .tc then dutiesOf (role g.2) else ∅
  unitless _ := False
  amount g _ _ := amountOf (role g.2)
  payload g _ d := payOf m g.1.1 (role g.2) d
  amount_pos g _ _ _ := amountOf_pos _

instance Rd_payload_storable (g : GSem nD τ sig) (r : ℕ) (d : Bool) : BI.Storable (upEmb : UEmb _ 𝕄) ((Rd (F := F) m).payload g r d) := by
  show BI.Storable upEmb (payOf m g.1.1 (role g.2) d); infer_instance

section Tables
variable (c : Dev nD) {sm : SemLoc sig} {k : Role}

theorem duties_at (h : role sm = k) : (Rd (F := F) m).duties (at_ c sm) 0 = dutiesOf k := by
  subst h; dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_at (h : role sm = k) (d : Bool) : (Rd (F := F) m).amount (at_ c sm) 0 d = amountOf k := by subst h; rfl
theorem payload_at (h : role sm = k) (d : Bool) : (Rd (F := F) m).payload (at_ c sm) 0 d = payOf m c k d := by subst h; rfl
theorem expect_bar : (Rd (F := F) m).expect (at_ c sBar) 0 = 2 := by
  unfold Schedule.expect Schedule.amountOf
  rw [duties_at m c role_bar, Finset.sum_congr rfl fun d _ => amount_at m c role_bar d]; rfl
theorem expect_one (h : role sm = k) (hd : dutiesOf k = {false}) : (Rd (F := F) m).expect (at_ c sm) 0 = amountOf k := by
  unfold Schedule.expect Schedule.amountOf
  rw [duties_at m c h, hd, Finset.sum_singleton, amount_at m c h]
theorem mem_duties (h : role sm = k) (hd : dutiesOf k = {false}) : false ∈ (Rd (F := F) m).duties (at_ c sm) 0 := by
  rw [duties_at m c h, hd]; exact Finset.mem_singleton_self _
theorem mem_duties_bar (d : Bool) : d ∈ (Rd (F := F) m).duties (at_ c sBar) 0 := by
  rw [duties_at m c role_bar]; exact Finset.mem_univ _
/-- What the wait for the whole round of a cell with one duty hands over. -/
theorem rest_one (h : role sm = k) (hd : dutiesOf k = {false}) :
    bigSep ((Rd (F := F) m).duties (at_ c sm) 0 \ ∅) (fun d => (Rd (F := F) m).payload (at_ c sm) 0 d) = payOf m c k false := by
  rw [Finset.sdiff_empty, duties_at m c h, hd, bigSep_singleton, payload_at m c h]
theorem rest_bar :
    bigSep ((Rd (F := F) m).duties (at_ c sBar) 0 \ ∅) (fun d => (Rd (F := F) m).payload (at_ c sBar) 0 d)
      = iprop(payOf m c .bar false ∗ payOf m c .bar true) := by
  rw [Finset.sdiff_empty, duties_at m c role_bar]
  show bigSep Finset.univ _ = _
  rw [bigSep_univ_eq_bigSepL [false, true] (by decide) (by decide), bigSepL_cons_cons, bigSepL_singleton,
    payload_at m c role_bar, payload_at m c role_bar]
  rfl
end Tables

/-! ## The partial sums of what is owed, and the levels -/

/-- The sum of the family's members from `n` on. -/
def rem (t : Fin 4 → CellTallies nD τ sig Unit) (n : ℕ) : CellTallies nD τ sig Unit :=
  ∑ r ∈ Finset.univ.filter (fun r : Fin 4 => n ≤ r.val), t r
theorem rem_peel (t : Fin 4 → CellTallies nD τ sig Unit) (r : Fin 4) : rem t r.val = rem t (r.val + 1) + t r := by
  have h : Finset.univ.filter (fun s : Fin 4 => r.val ≤ s.val) = insert r (Finset.univ.filter (fun s : Fin 4 => r.val + 1 ≤ s.val)) := by
    revert r; decide
  unfold rem
  rw [h, Finset.sum_insert (by simp), add_comm]
theorem rem_four (t : Fin 4 → CellTallies nD τ sig Unit) : rem t 4 = 0 := by
  unfold rem
  rw [show Finset.univ.filter (fun r : Fin 4 => 4 ≤ r.val) = ∅ from by decide]; rfl
theorem rem_pos {t : Fin 4 → CellTallies nD τ sig Unit} {n : ℕ} {g : GSem nD τ sig} {u : Unit} (h : 0 < rem t n g u) : ∃ r, 0 < t r g u := by
  by_contra hn
  have h0 : ∀ r, t r g u = 0 := fun r => Nat.eq_zero_of_not_pos fun hr => hn ⟨r, hr⟩
  unfold rem at h
  rw [Finset.sum_apply, Finsupp.finsetSum_apply, Finset.sum_eq_zero fun r _ => h0 r] at h
  exact Nat.lt_irrefl 0 h

/-- What device `c` owes its partners' receive cells from chunk `n` on: across x, and across y. -/
def owX (c : Dev nD) (n : ℕ) : CellTallies nD τ sig Unit := rem (fun r => tallyAt (at_ (xp c) (sXr r)) () N) n
def owY (c : Dev nD) (n : ℕ) : CellTallies nD τ sig Unit := rem (fun r => tallyAt (at_ (yp c) (sFr r)) () N) n
/-- What device `c` owes at launch: the first signal pays the last summand, the second the one before. -/
def O₁ (c : Dev nD) : CellTallies nD τ sig Unit := owY c 0 + owX c 0 + tallyAt (at_ (yp c) sBar) () 1
def O₀ (c : Dev nD) : CellTallies nD τ sig Unit := O₁ c + tallyAt (at_ (xp c) sBar) () 1

def levelOf : Role → ℕ
  | .bar => 1
  | .xr _ => 2
  | .fr _ => 3
  | _ => 0
def L (g : GSem nD τ sig) : Finset Unit := if g.1.2 = .tc then {()} else ∅
def lv (g : GSem nD τ sig) (_ : Unit) : ℕ := levelOf (role g.2)
theorem L_of_ne (g : GSem nD τ sig) (h : g.1.2 ≠ .tc) : L g = ∅ := if_neg h
theorem L_tc (c : Dev nD) (sm : SemLoc sig) : L (at_ c sm) = {()} := if_pos rfl

/-- Everything `O` owes is owed to a cell of a device above level `n`. -/
def Above (n : ℕ) (O : CellTallies nD τ sig Unit) : Prop := ∀ g u, 0 < O g u → g.1.2 = .tc ∧ n < levelOf (role g.2)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) {sm : SemLoc sig} {k : Role} (hk : role sm = k) (hn : n < levelOf k) (a : ℕ) :
    Above n (tallyAt (at_ c sm) () a) := fun g u hg => by
  rw [tallyAt_apply] at hg
  by_cases h : g = at_ c sm ∧ u = ()
  · obtain ⟨rfl, -⟩ := h; subst hk; exact ⟨rfl, hn⟩
  · rw [if_neg h] at hg; exact absurd hg (Nat.lt_irrefl 0)
theorem Above.rem {n k : ℕ} {t : Fin 4 → CellTallies nD τ sig Unit} (h : ∀ r, Above n (t r)) : Above n (rem t k) := fun g u hg => by
  obtain ⟨r, hr⟩ := rem_pos hg; exact h r g u hr
theorem above_owX (c : Dev nD) (k : ℕ) {n : ℕ} (hn : n < 2) : Above n (owX c k) := Above.rem fun r => Above.tally _ (role_xr r) hn _
theorem above_owY (c : Dev nD) (k : ℕ) {n : ℕ} (hn : n < 3) : Above n (owY c k) := Above.rem fun r => Above.tally _ (role_fr r) hn _
theorem above_O₀ (c : Dev nD) : Above 0 (O₀ c) :=
  (((above_owY c 0 (by decide)).add (above_owX c 0 (by decide))).add (Above.tally _ role_bar (by decide) _)).add (Above.tally _ role_bar (by decide) _)

omit [FloatOps F] in
/-- A device may wait at a semaphore whose level lies below everything it owes. -/
theorem mayWait (c : Dev nD) {sm : SemLoc sig} {k : Role} (hk : role sm = k) {O : CellTallies nD τ sig Unit} (hO : Above (levelOf k) O) :
    (levAts L lv : sProp 𝕄) ⊢ MayWait (c : Thread nD τ) sm () O :=
  MayOwe.of_cut (L := L) (lev := lv) (levelOf k)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; subst hk; exact le_rfl)
    (fun g u hg => (hO g u hg).2)

/-! ## The records every device holds -/

/-- The nineteen cells of a device, numbered. -/
def csem (k : Fin 19) : SemLoc sig := if k = 0 then sBar else .dma k
abbrev kcell (ck : Dev nD × Fin 19) : GSem nD τ sig := at_ ck.1 (csem ck.2)
def kXs (r : Fin 4) : Fin 19 := ⟨3 + r.val, by omega⟩
def kXr (r : Fin 4) : Fin 19 := ⟨7 + r.val, by omega⟩
def kFs (r : Fin 4) : Fin 19 := ⟨11 + r.val, by omega⟩
def kFr (r : Fin 4) : Fin 19 := ⟨15 + r.val, by omega⟩
theorem csem_bar : csem 0 = sBar := rfl
theorem csem_in0 : csem 1 = sIn0 := by decide
theorem csem_in1 : csem 2 = sIn1 := by decide
theorem csem_xs : ∀ r, csem (kXs r) = sXs r := by decide
theorem csem_xr : ∀ r, csem (kXr r) = sXr r := by decide
theorem csem_fs : ∀ r, csem (kFs r) = sFs r := by decide
theorem csem_fr : ∀ r, csem (kFr r) = sFr r := by decide

/-- Every cell's invariant under the names `K`, that every cell is at round 0 at least, and the levels. -/
def recs (K : Dev nD × Fin 19 → ℕ) : sProp 𝕄 :=
  iprop((bigSep Finset.univ fun ck : Dev nD × Fin 19 => cellInv ER (Rd m) (K ck) (kcell ck))
    ∗ (bigSep Finset.univ fun ck : Dev nD × Fin 19 => reached ER (kcell ck) 0) ∗ levAts L lv)
instance recs_persistent (K : Dev nD × Fin 19 → ℕ) : BI.Persistent (recs m K) := by unfold recs; infer_instance

theorem inv_at (K : Dev nD × Fin 19 → ℕ) (ck : Dev nD × Fin 19) :
    (bigSep Finset.univ fun ck : Dev nD × Fin 19 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)
theorem inv_of (K : Dev nD × Fin 19 → ℕ) (c : Dev nD) (k : Fin 19) {sm : SemLoc sig} (h : csem k = sm) :
    recs m K ⊢ cellInv ER (Rd m) (K (c, k)) (at_ c sm) := by
  subst h; unfold recs
  iintro ⟨H, -⟩
  iapply (inv_at m K (c, k))
  iexact H
theorem reached_of (K : Dev nD × Fin 19 → ℕ) (c : Dev nD) (k : Fin 19) {sm : SemLoc sig} (h : csem k = sm) :
    recs m K ⊢ reached ER (at_ c sm) 0 := by
  subst h; unfold recs
  iintro ⟨-, H, -⟩
  iapply (reached_at (F := F) (c, k))
  iexact H
theorem lev_of (K : Dev nD × Fin 19 → ℕ) : recs m K ⊢ (levAts L lv : sProp 𝕄) := by
  unfold recs; iintro ⟨-, -, H⟩; iexact H

end Cert.KernelIdeal.Gen

end
-- ==== Proof.Compute.lean ====
/- The operations the steps are made of, each on whatever buffers it meets: a transfer to a partner, a local copy, a
   wait, a load and a store, from the resources it needs to those it leaves. -/
module

public import proofs.«01_k».proof.Proof.Protocol

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a device's program. -/
abbrev run {α : Type} (c : Dev nD) (p : TProg F α) (Q : α → sProp 𝕄) : sProp 𝕄 :=
  wp frame (wpE (defs₀ (F := F)) 𝒱₀ (c : Thread nD τ) none) Set.univ p Q

/-- What device `c` owes, whatever it has waited for. -/
abbrev ow (c : Dev nD) (O : CellTallies nD τ sig Unit) : sProp 𝕄 := iprop(∃ W, owes (c : Thread nD τ) O W)

variable (m : (ℓ : Loc nD τ sig) → Buf (Elt F) ℓ)

/-! ## Slots as memrefs -/

omit [FloatOps F] in
theorem slotS_set (r : Fin 4) : (slotM bufS r).view.set = (slotR r).set := (View.set_reshape _ _).trans (View.set_slice_whole _ _)
omit [FloatOps F] in
theorem slotRx_set (r : Fin 4) : (slotM bufRx r).view.set = (slotR r).set := (View.set_reshape _ _).trans (View.set_slice_whole _ _)
omit [FloatOps F] in
theorem slotRy_set (r : Fin 4) : (slotM bufRy r).view.set = (slotR r).set := (View.set_reshape _ _).trans (View.set_slice_whole _ _)

omit [FloatOps F] in
/-- A slot copied from one buffer to another holds, on the slot, what it held at the source. -/
theorem copy_x (r : Fin 4) (f g : S4x32x4224.Idx → Elt F .bf16) : ∀ i ∈ (slotM bufRx r).view.set,
    (slotM bufRx r).view.write (Elt F) f ((slotM bufS r).view.read (Elt F) g) Finset.univ i = g i := by
  intro i hi
  obtain ⟨j, -, rfl⟩ := Finset.mem_map.mp hi
  exact View.write_emb_of_mem (v := (slotM bufRx r).view) f _ (Finset.mem_univ j)
omit [FloatOps F] in
theorem copy_y (r : Fin 4) (f g : S4x32x4224.Idx → Elt F .bf16) : ∀ i ∈ (slotM bufRy r).view.set,
    (slotM bufRy r).view.write (Elt F) f ((slotM bufRx r).view.read (Elt F) g) Finset.univ i = g i := by
  intro i hi
  obtain ⟨j, -, rfl⟩ := Finset.mem_map.mp hi
  exact View.write_emb_of_mem (v := (slotM bufRy r).view) f _ (Finset.mem_univ j)

/-- A program that returns, and one program after another. -/
theorem run_ret (c : Dev nD) {α : Type} (a : α) (Q : α → sProp 𝕄) : Q a ⊢ run c (.ret a) Q := by
  show Q a ⊢ wp frame (wpE (defs₀ (F := F)) 𝒱₀ (c : Thread nD τ) none) Set.univ (.ret a) Q
  rw [wp_ret]
  iintro H
  imodintro
  iexact H
theorem run_bind (c : Dev nD) {α β : Type} (p : TProg F α) (f : α → TProg F β) (Q : β → sProp 𝕄) :
    run c p (fun x => run c (f x) Q) ⊢ run c (p >>= f) Q := by
  show _ ⊢ wp frame (wpE (defs₀ (F := F)) 𝒱₀ (c : Thread nD τ) none) Set.univ (p >>= f) Q
  rw [wp_bind]

/-! ## Transfers, copies and waits -/

/-- A transfer of view `A` to view `B` of device `n = c'`, from what is held of both, to the credit its source waits
    with and what is still owed. -/
theorem send_gen (K : Dev nD × Fin 19 → ℕ) (c n c' : Dev nD) (hn : n = c') {s : Shape} {e : EltTy} (A B : Memref sig .tc .vmem s e) {sS sR : SemLoc sig}
    {k₁ k₂ : Fin 19} (hk₁ : csem k₁ = sS) (hk₂ : csem k₂ = sR)
    {R₁ R₂ : Role} (h₁ : role sS = R₁) (h₂ : role sR = R₂) (hd₁ : dutiesOf R₁ = {false}) (hd₂ : dutiesOf R₂ = {false})
    (ha₁ : amountOf R₁ = N) (ha₂ : amountOf R₂ = N) (hN : B.view.amount sR = N)
    (O₀ O : CellTallies nD τ sig Unit) (hO : O₀ = O + tallyAt (at_ c' sR) () N)
    (q : PosShare TreeShare) (fs : Buf (Elt F) (A.view.loc (c : Thread nD τ))) (fd : Buf (Elt F) (B.view.loc (c' : Thread nD τ)))
    (hp₁ : (A.view.loc (c : Thread nD τ) ↦[A.view.set]{q} fs : sProp 𝕄) ⊢ payOf m c R₁ false)
    (hp₂ : (B.view.loc (c' : Thread nD τ) ↦[B.view.set]{fullShare} (B.view.write (Elt F) fd (A.view.read (Elt F) fs) Finset.univ) : sProp 𝕄) ⊢ payOf m c' R₂ false)
    {hsc : (B : Memref sig (Dev.tc n : Thread nD τ).2.kind .vmem s e).view.ref.isScScratch = false}
    {hsrc : A.view.WordExact} {hdst : B.view.WordExact}
    {hsem : DmaTarget.Typed .vmem sR (.remote (Dev.tc n : Thread nD τ) B sS hsc)}
    {α : Type} (Q : α → sProp 𝕄) {k : PUnit → TProg F α} (W : Waits sig Unit) :
    iprop(recs m K ∗ (A.view.loc (c : Thread nD τ) ↦[A.view.set]{q} fs) ∗ (B.view.loc (c' : Thread nD τ) ↦[B.view.set]{fullShare} fd) ∗ owes (c : Thread nD τ) O₀ W
        ∗ dutyTok ER (at_ c sS) 0 false ∗ dutyTok ER (at_ c' sR) 0 false)
      ⊢ iprop(((cred (tallyAt (at_ c sS) () N) ∗ owes (c : Thread nD τ) O W) -∗ run c (k ⟨⟩) Q)
          -∗ run c (.op (.enqueueDma A (.remote (Dev.tc n : Thread nD τ) B sS hsc) sR hsrc hdst hsem) k) Q) := by
  subst hn
  iintro ⟨#HR, Hs, Hd, HO, Ht1, Ht2⟩
  iapply (Rounds.wp_send_pointsTo 𝒱₀ ER (Rd m) (c : Thread nD τ) none (κ₁ := K (c, k₁)) (κ₂ := K (n, k₂))
    (r₁ := 0) (r₂ := 0) (d₁ := false) (d₂ := false) (fd := fd) (fs := fs) (q := q)
    (mem_duties m c h₁ hd₁) (mem_duties m n h₂ hd₂)
    () () N hN ((amount_at m c h₁ false).trans ha₁) ((amount_at m n h₂ false).trans ha₂) O hO (W := W)
    (by rw [payload_at m c h₁]; exact hp₁) (by rw [payload_at m n h₂]; exact hp₂))
  isplitr; · iapply (inv_of m K c k₁ hk₁); iexact HR
  isplitr; · iapply (inv_of m K n k₂ hk₂); iexact HR
  isplitl [Hs]; · iexact Hs
  isplitl [Hd]; · iexact Hd
  isplitl [HO]; · iexact HO
  isplitl [Ht1]; · iexact Ht1
  isplitr; · iapply (reached_of m K c k₁ hk₁); iexact HR
  isplitl [Ht2]; · iexact Ht2
  iapply (reached_of m K n k₂ hk₂); iexact HR

/-- A local copy of view `A` to view `B`: the credit to await it with. -/
theorem copy_gen (K : Dev nD × Fin 19 → ℕ) (c : Dev nD) {s : Shape} {e : EltTy} (A : Memref sig .tc .hbm s e) (B : Memref sig .tc .vmem s e) {sm : SemLoc sig}
    {k₁ : Fin 19} (hk₁ : csem k₁ = sm) {R₁ : Role} (h₁ : role sm = R₁) (hd₁ : dutiesOf R₁ = {false}) (hN : B.view.amount sm = amountOf R₁)
    (q : PosShare TreeShare) (fs : Buf (Elt F) (A.view.loc (c : Thread nD τ))) (fd : Buf (Elt F) (B.view.loc (c : Thread nD τ)))
    (hp : iprop((B.view.loc (c : Thread nD τ) ↦[B.view.set]{fullShare} (B.view.write (Elt F) fd (A.view.read (Elt F) fs) Finset.univ))
      ∗ (A.view.loc (c : Thread nD τ) ↦[A.view.set]{q} fs)) ⊢ payOf m c R₁ false)
    {hsrc : A.view.WordExact} {hdst : B.view.WordExact} {hsem : DmaTarget.Typed (nD := nD) .hbm sm (.here (p := (c : Thread nD τ).2) B)}
    {α : Type} (Q : α → sProp 𝕄) {k : PUnit → TProg F α} :
    iprop(recs m K ∗ (A.view.loc (c : Thread nD τ) ↦[A.view.set]{q} fs) ∗ (B.view.loc (c : Thread nD τ) ↦[B.view.set]{fullShare} fd)
        ∗ dutyTok ER (at_ c sm) 0 false)
      ⊢ iprop((cred (tallyAt (at_ c sm) () (amountOf R₁)) -∗ run c (k ⟨⟩) Q)
          -∗ run c (.op (.enqueueDma A (.here B) sm hsrc hdst hsem) k) Q) := by
  iintro ⟨#HR, Hs, Hd, Ht⟩
  iapply (Rounds.wp_copy_pointsTo 𝒱₀ ER (Rd m) (c : Thread nD τ) none (κ := K (c, k₁)) (r := 0) (d := false) (fd := fd) (fs := fs) (q := q)
    (mem_duties m c h₁ hd₁) () (amountOf R₁) hN (amount_at m c h₁ false) (by rw [payload_at m c h₁]; exact hp))
  isplitr; · iapply (inv_of m K c k₁ hk₁); iexact HR
  isplitl [Hs]; · iexact Hs
  isplitl [Hd]; · iexact Hd
  isplitl [Ht]; · iexact Ht
  iapply (reached_of m K c k₁ hk₁); iexact HR

theorem mayWait_of (K : Dev nD × Fin 19 → ℕ) (c : Dev nD) {sm : SemLoc sig} {k : Role} (hk : role sm = k) {O : CellTallies nD τ sig Unit} (hO : Above (levelOf k) O) :
    recs m K ⊢ (MayWait (c : Thread nD τ) sm () O : sProp 𝕄) := (lev_of m K).trans (mayWait (F := F) c hk hO)

/-- A wait for everything a cell with one duty expects: the duty's payload, and the cell's counter at zero. -/
theorem wait_gen (K : Dev nD × Fin 19 → ℕ) (c : Dev nD) {s s' : Shape} {e e' : EltTy} {sp sp' : Space} (A : Memref sig .tc sp' s' e') (B : Memref sig .tc sp s e) {sm : DmaSem sig}
    {k₁ : Fin 19} (hk₁ : csem k₁ = .dma sm) {R₁ : Role} (h₁ : role (.dma sm) = R₁) (hd₁ : dutiesOf R₁ = {false}) (hN : B.view.dmaCredit = amountOf R₁)
    {O : CellTallies nD τ sig Unit} (hO : Above (levelOf R₁) O)
    {hsrc : A.view.WordExact} {hdst : B.view.WordExact} {α : Type} (Q : α → sProp 𝕄) {k : PUnit → TProg F α} :
    iprop(recs m K ∗ cred (tallyAt (at_ c (.dma sm)) () (amountOf R₁)) ∗ ow c O ∗ atPos ER (at_ c (.dma sm)) 0 ∅ 0)
      ⊢ iprop(((ow c O ∗ semVal (at_ c (.dma sm)) 0 ∗ payOf m c R₁ false) -∗ run c (k ⟨⟩) Q)
          -∗ run c (.op (.waitDma2 sm A B hsrc hdst) k) Q) := by
  iintro ⟨#HR, Hc, ⟨%W, HO⟩, Hat⟩ Hk
  iapply (Rounds.wp_wait_rest_token 𝒱₀ ER (Rd m) (c : Thread nD τ) none (κ := K (c, k₁))
      (wpE_waitDma2_eq 𝒱₀ (c : Thread nD τ) none Set.univ) (Set.mem_univ _) () (O := O) (W := W) (R := 0) (m := 0) (T := ∅)
      (by rw [Nat.zero_add, expect_one m c h₁ hd₁, hN])) $$ [Hc HO Hat]
  · isplitr; · iapply (inv_of m K c k₁ hk₁); iexact HR
    isplitl [Hc]; · rw [hN]; iexact Hc
    isplitl [HO]; · iexact HO
    isplitr
    · iapply (mayWait_of m K c h₁ hO); iexact HR
    iexact Hat
  iintro ⟨HO, Hat, -, Hpay⟩
  ihave Hp := (Entails.of_eq (rest_one m c h₁ hd₁)) $$ Hpay
  imod (Rounds.cell_close ER (Rd m) (Set.mem_univ (K (c, k₁))) (fun h => h) (R := 0 + 1) (duties_later m (at_ c (.dma sm)))) $$ [Hat] with Hz
  · isplitr; · iapply (inv_of m K c k₁ hk₁); iexact HR
    iexact Hat
  iapply Hk
  isplitl [HO]; · iexists _; iexact HO
  isplitl [Hz]; · iexact Hz
  iexact Hp

/-! ## Loads and stores of the chunks -/

/-- A load of a rectangle of a buffer, its offsets in another spelling, from elements that hold the vector `w` there. -/
theorem load_rect (c : Dev nD) {s : Shape} {e : EltTy} (M : Memref sig .tc .vmem s e) {off off' size : Fin s.rank → Nat} (h : off = off') {inb : ∀ a, off a + size a ≤ s.size a}
    (inb' : ∀ a, off' a + size a ≤ s.size a) (S : Finset (Idx ((M.access (Rect.unit off' size inb')).loc (c : Thread nD τ)))) (hS : (M.access (Rect.unit off' size inb') : View sig .tc _ _ _).set ⊆ S)
    (q : PosShare TreeShare) (f : Buf (Elt F) ((M.access (Rect.unit off' size inb')).loc (c : Thread nD τ))) (w : (Rect.unit off' size inb').shape.Idx → Elt F e)
    (hw : (M.access (Rect.unit off' size inb') : View sig .tc _ _ _).read (Elt F) f = w)
    {hl : M.view.LoadsAt (Rect.unit off size inb).toLoadRect} {α : Type} (Q : α → sProp 𝕄) {k : ((Rect.unit off' size inb').shape.Idx → Elt F e) → TProg F α} :
    ((M.access (Rect.unit off' size inb')).loc (c : Thread nD τ) ↦[S]{q} f : sProp 𝕄)
      ⊢ iprop((((M.access (Rect.unit off' size inb')).loc (c : Thread nD τ) ↦[S]{q} f) -∗ run c (k w) Q)
        -∗ run c (.op (.load M (Rect.unit off size inb).toLoadRect hl) k) Q) := by
  subst h hw
  exact wp_load_rect 𝒱₀ (c : Thread nD τ) none Set.univ hS

/-- A store through a rectangle of a buffer, from its elements at any contents to any contents that hold the stored
    vector there. -/
theorem store_rect (c : Dev nD) {s : Shape} {e : EltTy} (M : Memref sig .tc .vmem s e) {off off' size : Fin s.rank → Nat} (h : off = off') {inb : ∀ a, off a + size a ≤ s.size a}
    (inb' : ∀ a, off' a + size a ≤ s.size a) (S : Finset (Idx ((M.access (Rect.unit off' size inb')).loc (c : Thread nD τ)))) (hS : (M.access (Rect.unit off' size inb') : View sig .tc _ _ _).set = S)
    (f G : Buf (Elt F) ((M.access (Rect.unit off' size inb')).loc (c : Thread nD τ))) (w : (Rect.unit off' size inb').shape.Idx → Elt F e)
    (hw : (M.access (Rect.unit off' size inb') : View sig .tc _ _ _).read (Elt F) G = w)
    {hs : (M.access (Rect.unit off size inb) : View sig .tc _ _ _).Stores Finset.univ} {he : Finset.univ = Finset.univ ∨ ∀ a, (Rect.unit off size inb).stride a = 1}
    {α : Type} (Q : α → sProp 𝕄) {k : PUnit → TProg F α} :
    ((M.access (Rect.unit off' size inb')).loc (c : Thread nD τ) ↦[S]{fullShare} f : sProp 𝕄)
      ⊢ iprop((((M.access (Rect.unit off' size inb')).loc (c : Thread nD τ) ↦[S]{fullShare} G) -∗ run c (k ⟨⟩) Q)
        -∗ run c (.op (.store M (Rect.unit off size inb) w Finset.univ hs he) k) Q) := by
  subst h hS hw
  rw [show ((M.access (Rect.unit off size inb)).loc (c : Thread nD τ) ↦[(M.access (Rect.unit off size inb) : View sig .tc _ _ _).set]{fullShare} G : sProp 𝕄)
      = ((M.access (Rect.unit off size inb)).loc (c : Thread nD τ) ↦[(M.access (Rect.unit off size inb) : View sig .tc _ _ _).set]{fullShare}
          ((M.access (Rect.unit off size inb) : View sig .tc _ _ _).write (Elt F) f ((M.access (Rect.unit off size inb) : View sig .tc _ _ _).read (Elt F) G) Finset.univ)) from
    pointsTo_congr fun i hi => by
      obtain ⟨j, -, rfl⟩ := Finset.mem_map.mp hi
      rw [View.write_emb_of_mem _ _ (Finset.mem_univ j), View.read_apply, cast_cast, cast_eq]]
  exact wp_store 𝒱₀ (c : Thread nD τ) none Set.univ (Finset.Subset.refl _)

end Cert.KernelIdeal.Gen

end
-- ==== Proof.Produce.lean ====
/- The steps that compute chunks: what one chunk of the device's own rows does (computed, packed, sent across x), and
   what one chunk of the other rows does, from the resources each needs to those it leaves. -/
module

public import proofs.«01_k».proof.Proof.Compute

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Reading a whole buffer through a rectangle is reading it at the rectangle's elements. -/
theorem read_access (b : Ref sig .tc) (r : Rect b.ty.shape) (f : b.ty.Contents (Elt F)) :
    ((Memref.whole b).access r : View sig .tc _ _ _).read (Elt F) f = fun j => f (r.emb j) := rfl
theorem pch_at (c : Dev nD) (r : Fin 4) : (fun j => PV m c ((slotR r).emb j)) = pch m c (ownb c r) := funext fun j => PV_emb m c r j
theorem ech_at (c : Dev nD) (b : Fin 8) : (fun j => EV m c ((blkE b).emb j)) = ech m c b := funext fun j => EV_emb m c b j
theorem sch_at (c : Dev nD) (b : Fin 8) : (fun j => TV m c ((blkT b).emb j)) = sch m c b := funext fun j => TV_emb m c b j
theorem och_at (c : Dev nD) (b : Fin 8) (h : Fin 2) : (fun j => OV m c ((blkO b h).emb j)) = och m c b h := funext fun j => OV_emb m c b h j

/-- What a chunk of the other rows leaves: the rows, the chunk's exponentials and its row sums. -/
theorem oth_step (c : Dev nD) (r : Fin 4) (Kt : PUnit → sProp 𝕄) :
    iprop(allPts c cc0_scratch0 (xin m c) ∗ (∃ f, ePts c (othb c r) f) ∗ (∃ f, tPts c (othb c r) f)
        ∗ ((allPts c cc0_scratch0 (xin m c) ∗ ePts c (othb c r) (EV m c) ∗ tPts c (othb c r) (TV m c)) -∗ Kt ⟨⟩))
      ⊢ run c (othStep c (win m c) r) Kt := by
  unfold othStep
  simp only [Prog.lift, Prog.bind_op, Prog.bind_ret, Prog.pure_eq_ret]
  iintro ⟨Hx, ⟨%fe, He⟩, ⟨%ft, Ht⟩, Hk⟩
  iapply (load_rect c bufX (off4_eq c r) (blkX_inb (othb c r)) Finset.univ (Finset.subset_univ _) fullShare (xin m c)
    (xch m c (othb c r)) rfl) $$ Hx
  iintro Hx
  iapply (load_rect c bufE (off5_eq c r) (blkE_inb (othb c r)) (blkE (othb c r)).set (View.set_slice_whole _ _).subset fullShare fe _ rfl) $$ He
  iintro He
  iapply (store_rect c bufE (off5_eq c r) (blkE_inb (othb c r)) (blkE (othb c r)).set (View.set_slice_whole _ _) fe (EV m c)
    (k0_pay10 (k0_pay7 (k0_pay1 (win m c)) (xch m c (othb c r)))) ((funext fun j => EV_emb m c _ j).trans (pay10_eq _).symm)) $$ He
  iintro He
  iapply (load_rect c bufT (off6_eq c r) (blkT_inb (othb c r)) (blkT (othb c r)).set (View.set_slice_whole _ _).subset fullShare ft _ rfl) $$ Ht
  iintro Ht
  iapply (store_rect c bufT (off6_eq c r) (blkT_inb (othb c r)) (blkT (othb c r)).set (View.set_slice_whole _ _) ft (TV m c)
    (k0_pay11 (k0_pay8 (k0_pay1 (win m c)) (xch m c (othb c r)))) ((funext fun j => TV_emb m c _ j).trans (pay11_eq _).symm)) $$ Ht
  iintro Ht
  iapply (run_ret c _ Kt)
  iapply Hk
  isplitl [Hx]; · iexact Hx
  isplitl [He]; · iexact He
  iexact Ht

/-- What chunk `r` of a device's own rows leaves: the rows, the chunk's exponentials and row sums, the credit to await
    its transfer across x with, and one transfer fewer owed. -/
theorem own_step (K : Dev nD × Fin 19 → ℕ) (c : Dev nD) (r : Fin 4) (Kt : PUnit → sProp 𝕄) :
    iprop(recs m K ∗ allPts c cc0_scratch0 (xin m c) ∗ (∃ f, sendPts c r f) ∗ (∃ f, rxPts (xp c) r fullShare f)
        ∗ (∃ f, ePts c (ownb c r) f) ∗ (∃ f, tPts c (ownb c r) f) ∗ ow c (owY c 0 + owX c r.val)
        ∗ dutyTok ER (at_ c (sXs r)) 0 false ∗ dutyTok ER (at_ (xp c) (sXr r)) 0 false
        ∗ ((allPts c cc0_scratch0 (xin m c) ∗ ePts c (ownb c r) (EV m c) ∗ tPts c (ownb c r) (TV m c)
            ∗ ow c (owY c 0 + owX c (r.val + 1)) ∗ cred (tallyAt (at_ c (sXs r)) () N)) -∗ Kt ⟨⟩))
      ⊢ run c (ownStep c (win m c) r) Kt := by
  unfold ownStep
  simp only [Prog.lift, Prog.bind_op, Prog.bind_ret, Prog.pure_eq_ret]
  iintro ⟨#HR, Hx, ⟨%fs, Hs⟩, ⟨%fr, Hr⟩, ⟨%fe, He⟩, ⟨%ft, Ht⟩, ⟨%W, HO⟩, Ht1, Ht2, Hk⟩
  iapply (load_rect c bufX (off1_eq c r) (blkX_inb (ownb c r)) Finset.univ (Finset.subset_univ _) fullShare (xin m c)
    (xch m c (ownb c r)) rfl) $$ Hx
  iintro Hx
  iapply (load_rect c bufS (Eq.refl ![r.val, 0, 0]) (slot_inb r) (slotR r).set (View.set_slice_whole _ _).subset fullShare fs _ rfl) $$ Hs
  iintro Hs
  iapply (store_rect c bufS (Eq.refl ![r.val, 0, 0]) (slot_inb r) (slotR r).set (View.set_slice_whole _ _) fs (PV m c)
    (k0_pay9 (k0_pay1 (win m c)) (xch m c (ownb c r))) ((read_access cc0_scratch2 (slotR r) _).trans (pch_at m c r))) $$ Hs
  iintro Hs
  iapply (send_gen m K c _ (xp c) (sendDev_eq c r) (slotM bufS r) (slotM bufRx r) (csem_xs r) (csem_xr r) (role_xs r) (role_xr r) rfl rfl rfl rfl rfl
    (owY c 0 + owX c r.val) (owY c 0 + owX c (r.val + 1)) (by rw [add_assoc]; exact congrArg (owY c 0 + ·) (rem_peel _ r))
    fullShare (PV m c) fr (by rw [slotS_set]; exact BI.Entails.refl _)
    (by rw [pointsTo_congr (copy_x r fr (PV m c)), slotRx_set]
        show _ ⊢ rxPts (xp c) r fullShare (PV m (xp (xp c)))
        rw [xp_xp]) Kt W) $$ [Hs Hr HO Ht1 Ht2]
  · isplitr; · iexact HR
    isplitl [Hs]; · rw [slotS_set]; iexact Hs
    isplitl [Hr]; · rw [slotRx_set]; iexact Hr
    isplitl [HO]; · iexact HO
    isplitl [Ht1]; · iexact Ht1
    iexact Ht2
  iintro ⟨Hc, HO⟩
  iapply (load_rect c bufE (off2_eq c r) (blkE_inb (ownb c r)) (blkE (ownb c r)).set (View.set_slice_whole _ _).subset fullShare fe _ rfl) $$ He
  iintro He
  iapply (store_rect c bufE (off2_eq c r) (blkE_inb (ownb c r)) (blkE (ownb c r)).set (View.set_slice_whole _ _) fe (EV m c)
    (k0_pay10 (k0_pay7 (k0_pay1 (win m c)) (xch m c (ownb c r)))) ((funext fun j => EV_emb m c _ j).trans (pay10_eq _).symm)) $$ He
  iintro He
  iapply (load_rect c bufT (off3_eq c r) (blkT_inb (ownb c r)) (blkT (ownb c r)).set (View.set_slice_whole _ _).subset fullShare ft _ rfl) $$ Ht
  iintro Ht
  iapply (store_rect c bufT (off3_eq c r) (blkT_inb (ownb c r)) (blkT (ownb c r)).set (View.set_slice_whole _ _) ft (TV m c)
    (k0_pay11 (k0_pay8 (k0_pay1 (win m c)) (xch m c (ownb c r)))) ((funext fun j => TV_emb m c _ j).trans (pay11_eq _).symm)) $$ Ht
  iintro Ht
  iapply (run_ret c _ Kt)
  iapply Hk
  isplitl [Hx]; · iexact Hx
  isplitl [He]; · iexact He
  isplitl [Ht]; · iexact Ht
  isplitl [HO]; · iexists W; iexact HO
  iexact Hc

end Cert.KernelIdeal.Gen

end
-- ==== Proof.Finish.lean ====
/- The steps that finish chunks: what one received chunk of the device's own rows does (awaited, forwarded across y,
   finished), what one received chunk of the other rows does, and the last waits of a chunk's two transfers. -/
module

public import proofs.«01_k».proof.Proof.Produce

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem och_hown (c : Dev nD) (b : Fin 8) : och m c b (hown c) = k0_pay37 (pch m (src c b) b) (sch m c b) (ech m c b) := if_pos rfl
theorem och_hoth (c : Dev nD) (b : Fin 8) : och m c b (hoth c) = k0_pay38 (pch m (src c b) b) (sch m c b) := if_neg (hoth_ne c)
/-- The packed chunk received across x, and across y, is the one that finishes the chunk. -/
theorem rx_at (c : Dev nD) (r : Fin 4) : (fun j => PV m (xp c) ((slotR r).emb j)) = pch m (src c (ownb c r)) (ownb c r) := by
  rw [pch_at, ownb_xp, src_own]
theorem ry_at (c : Dev nD) (r : Fin 4) : (fun j => PV m (xp (yp c)) ((slotR r).emb j)) = pch m (src c (othb c r)) (othb c r) := by
  rw [pch_at, ownb_xp, ownb_yp, src_oth]

/-- Nothing owed is owed above any level. -/
theorem above_zero (n : ℕ) : Above n (0 : CellTallies nD τ sig Unit) := fun g u h => absurd h (Nat.lt_irrefl 0)

/-- What a received chunk `r` of a device's own rows leaves: both halves of the chunk's result, half the received slot,
    the credit to await its forwarding with, one transfer fewer owed, and the receive cell's counter at zero. -/
theorem fin_step (K : Dev nD × Fin 19 → ℕ) (c : Dev nD) (r : Fin 4) (Kt : PUnit → sProp 𝕄) :
    iprop(recs m K ∗ cred (tallyAt (at_ c (sXr r)) () N) ∗ atPos ER (at_ c (sXr r)) 0 ∅ 0 ∗ ow c (owY c r.val)
        ∗ (∃ f, ryPts (yp c) r f) ∗ dutyTok ER (at_ c (sFs r)) 0 false ∗ dutyTok ER (at_ (yp c) (sFr r)) 0 false
        ∗ ePts c (ownb c r) (EV m c) ∗ tPts c (ownb c r) (TV m c) ∗ (∃ f, oPts c (ownb c r) (hown c) f) ∗ (∃ f, oPts c (ownb c r) (hoth c) f)
        ∗ ((semVal (at_ c (sXr r)) 0 ∗ rxPts c r fullShare.right (PV m (xp c)) ∗ cred (tallyAt (at_ c (sFs r)) () N) ∗ ow c (owY c (r.val + 1))
            ∗ ePts c (ownb c r) (EV m c) ∗ tPts c (ownb c r) (TV m c) ∗ oPts c (ownb c r) (hown c) (OV m c) ∗ oPts c (ownb c r) (hoth c) (OV m c)) -∗ Kt ⟨⟩))
      ⊢ run c (finStep bufO c r) Kt := by
  unfold finStep
  simp only [Prog.lift, Prog.bind_op, Prog.bind_ret, Prog.pure_eq_ret]
  iintro ⟨#HR, Hc, Hat, HO, ⟨%fr, Hr⟩, Ht1, Ht2, He, Ht, ⟨%g1, Ho1⟩, ⟨%g2, Ho2⟩, Hk⟩
  iapply (wait_gen m K c (slotM bufS r) (slotM bufRx r) (csem_xr r) (role_xr r) rfl rfl (above_owY c r.val (Nat.lt_succ_self 2)) Kt) $$ [Hc Hat HO]
  · isplitr; · iexact HR
    isplitl [Hc]; · iexact Hc
    isplitl [HO]; · iexact HO
    iexact Hat
  iintro ⟨⟨%W, HO⟩, Hz, Hp⟩
  ihave Hp := (Entails.of_eq (show payOf m c (.xr r) false = rxPts c r fullShare (PV m (xp c)) from rfl)) $$ Hp
  ihave Hp := (pointsTo_share (PosShare.mem_left_op_right fullShare)).1 $$ Hp
  icases Hp with ⟨Hl, Hp⟩
  iapply (send_gen m K c _ (yp c) (fwdDev_eq c r) (slotM bufRx r) (slotM bufRy r) (csem_fs r) (csem_fr r) (role_fs r) (role_fr r) rfl rfl rfl rfl rfl
    (owY c r.val) (owY c (r.val + 1)) (rem_peel _ r)
    fullShare.left (PV m (xp c)) fr (by rw [slotRx_set]; exact BI.Entails.refl _)
    (by rw [pointsTo_congr (copy_y r fr (PV m (xp c))), slotRy_set]
        show _ ⊢ ryPts (yp c) r (PV m (xp (yp (yp c))))
        rw [yp_yp]) Kt W) $$ [Hl Hr HO Ht1 Ht2]
  · isplitr; · iexact HR
    isplitl [Hl]; · rw [slotRx_set]; iexact Hl
    isplitl [Hr]; · rw [slotRy_set]; iexact Hr
    isplitl [HO]; · iexact HO
    isplitl [Ht1]; · iexact Ht1
    iexact Ht2
  iintro ⟨Hc, HO⟩
  iapply (load_rect c bufRx (Eq.refl ![r.val, 0, 0]) (slot_inb r) (slotR r).set (View.set_slice_whole _ _).subset fullShare.right (PV m (xp c))
    (pch m (src c (ownb c r)) (ownb c r)) ((read_access cc0_scratch3 (slotR r) _).trans (rx_at m c r))) $$ Hp
  iintro Hp
  iapply (load_rect c bufT (off3_eq c r) (blkT_inb (ownb c r)) (blkT (ownb c r)).set (View.set_slice_whole _ _).subset fullShare (TV m c)
    (sch m c (ownb c r)) ((read_access cc0_scratch6 (blkT (ownb c r)) _).trans (sch_at m c _))) $$ Ht
  iintro Ht
  iapply (load_rect c bufE (off2_eq c r) (blkE_inb (ownb c r)) (blkE (ownb c r)).set (View.set_slice_whole _ _).subset fullShare (EV m c)
    (ech m c (ownb c r)) ((read_access cc0_scratch5 (blkE (ownb c r)) _).trans (ech_at m c _))) $$ He
  iintro He
  iapply (load_rect c bufO (off7_eq c r) (blkO_inb (ownb c r) (hown c)) (blkO (ownb c r) (hown c)).set (View.set_slice_whole _ _).subset fullShare g1 _ rfl) $$ Ho1
  iintro Ho1
  iapply (store_rect c bufO (off7_eq c r) (blkO_inb (ownb c r) (hown c)) (blkO (ownb c r) (hown c)).set (View.set_slice_whole _ _) g1 (OV m c)
    (k0_pay37 (pch m (src c (ownb c r)) (ownb c r)) (sch m c (ownb c r)) (ech m c (ownb c r)))
    ((read_access cc0_stg0_0 (blkO (ownb c r) (hown c)) _).trans ((och_at m c _ _).trans (och_hown m c _)))) $$ Ho1
  iintro Ho1
  iapply (load_rect c bufO (off8_eq c r) (blkO_inb (ownb c r) (hoth c)) (blkO (ownb c r) (hoth c)).set (View.set_slice_whole _ _).subset fullShare g2 _ rfl) $$ Ho2
  iintro Ho2
  iapply (store_rect c bufO (off8_eq c r) (blkO_inb (ownb c r) (hoth c)) (blkO (ownb c r) (hoth c)).set (View.set_slice_whole _ _) g2 (OV m c)
    (k0_pay38 (pch m (src c (ownb c r)) (ownb c r)) (sch m c (ownb c r)))
    ((read_access cc0_stg0_0 (blkO (ownb c r) (hoth c)) _).trans ((och_at m c _ _).trans (och_hoth m c _)))) $$ Ho2
  iintro Ho2
  iapply (run_ret c _ Kt)
  iapply Hk
  isplitl [Hz]; · iexact Hz
  isplitl [Hp]; · iexact Hp
  isplitl [Hc]; · iexact Hc
  isplitl [HO]; · iexists W; iexact HO
  isplitl [He]; · iexact He
  isplitl [Ht]; · iexact Ht
  isplitl [Ho1]; · iexact Ho1
  iexact Ho2

/-- What a received chunk `r` of the other rows leaves: both halves of the chunk's result, the received slot, and the
    receive cell's counter at zero. -/
theorem last_step (K : Dev nD × Fin 19 → ℕ) (c : Dev nD) (r : Fin 4) (Kt : PUnit → sProp 𝕄) :
    iprop(recs m K ∗ cred (tallyAt (at_ c (sFr r)) () N) ∗ atPos ER (at_ c (sFr r)) 0 ∅ 0 ∗ ow c 0
        ∗ ePts c (othb c r) (EV m c) ∗ tPts c (othb c r) (TV m c) ∗ (∃ f, oPts c (othb c r) (hown c) f) ∗ (∃ f, oPts c (othb c r) (hoth c) f)
        ∗ ((semVal (at_ c (sFr r)) 0 ∗ ryPts c r (PV m (xp (yp c))) ∗ ow c 0
            ∗ ePts c (othb c r) (EV m c) ∗ tPts c (othb c r) (TV m c) ∗ oPts c (othb c r) (hown c) (OV m c) ∗ oPts c (othb c r) (hoth c) (OV m c)) -∗ Kt ⟨⟩))
      ⊢ run c (lastStep bufO c r) Kt := by
  unfold lastStep
  simp only [Prog.lift, Prog.bind_op, Prog.bind_ret, Prog.pure_eq_ret]
  iintro ⟨#HR, Hc, Hat, HO, He, Ht, ⟨%g1, Ho1⟩, ⟨%g2, Ho2⟩, Hk⟩
  iapply (wait_gen m K c (slotM bufRx r) (slotM bufRy r) (csem_fr r) (role_fr r) rfl rfl (above_zero _) Kt) $$ [Hc Hat HO]
  · isplitr; · iexact HR
    isplitl [Hc]; · iexact Hc
    isplitl [HO]; · iexact HO
    iexact Hat
  iintro ⟨HO, Hz, Hp⟩
  ihave Hp := (Entails.of_eq (show payOf m c (.fr r) false = ryPts c r (PV m (xp (yp c))) from rfl)) $$ Hp
  iapply (load_rect c bufRy (Eq.refl ![r.val, 0, 0]) (slot_inb r) (slotR r).set (View.set_slice_whole _ _).subset fullShare (PV m (xp (yp c)))
    (pch m (src c (othb c r)) (othb c r)) ((read_access cc0_scratch4 (slotR r) _).trans (ry_at m c r))) $$ Hp
  iintro Hp
  iapply (load_rect c bufT (off6_eq c r) (blkT_inb (othb c r)) (blkT (othb c r)).set (View.set_slice_whole _ _).subset fullShare (TV m c)
    (sch m c (othb c r)) ((read_access cc0_scratch6 (blkT (othb c r)) _).trans (sch_at m c _))) $$ Ht
  iintro Ht
  iapply (load_rect c bufE (off5_eq c r) (blkE_inb (othb c r)) (blkE (othb c r)).set (View.set_slice_whole _ _).subset fullShare (EV m c)
    (ech m c (othb c r)) ((read_access cc0_scratch5 (blkE (othb c r)) _).trans (ech_at m c _))) $$ He
  iintro He
  iapply (load_rect c bufO (off9_eq c r) (blkO_inb (othb c r) (hown c)) (blkO (othb c r) (hown c)).set (View.set_slice_whole _ _).subset fullShare g1 _ rfl) $$ Ho1
  iintro Ho1
  iapply (store_rect c bufO (off9_eq c r) (blkO_inb (othb c r) (hown c)) (blkO (othb c r) (hown c)).set (View.set_slice_whole _ _) g1 (OV m c)
    (k0_pay37 (pch m (src c (othb c r)) (othb c r)) (sch m c (othb c r)) (ech m c (othb c r)))
    ((read_access cc0_stg0_0 (blkO (othb c r) (hown c)) _).trans ((och_at m c _ _).trans (och_hown m c _)))) $$ Ho1
  iintro Ho1
  iapply (load_rect c bufO (off10_eq c r) (blkO_inb (othb c r) (hoth c)) (blkO (othb c r) (hoth c)).set (View.set_slice_whole _ _).subset fullShare g2 _ rfl) $$ Ho2
  iintro Ho2
  iapply (store_rect c bufO (off10_eq c r) (blkO_inb (othb c r) (hoth c)) (blkO (othb c r) (hoth c)).set (View.set_slice_whole _ _) g2 (OV m c)
    (k0_pay38 (pch m (src c (othb c r)) (othb c r)) (sch m c (othb c r)))
    ((read_access cc0_stg0_0 (blkO (othb c r) (hoth c)) _).trans ((och_at m c _ _).trans (och_hoth m c _)))) $$ Ho2
  iintro Ho2
  iapply (run_ret c _ Kt)
  iapply Hk
  isplitl [Hz]; · iexact Hz
  isplitl [Hp]; · iexact Hp
  isplitl [HO]; · iexact HO
  isplitl [He]; · iexact He
  isplitl [Ht]; · iexact Ht
  isplitl [Ho1]; · iexact Ho1
  iexact Ho2

/-- What the last waits of chunk `r` leave: its packed slot, the received slot whole again, both send cells' counters
    at zero. -/
theorem drain_step (K : Dev nD × Fin 19 → ℕ) (c : Dev nD) (r : Fin 4) (Kt : PUnit → sProp 𝕄) :
    iprop(recs m K ∗ cred (tallyAt (at_ c (sXs r)) () N) ∗ atPos ER (at_ c (sXs r)) 0 ∅ 0
        ∗ cred (tallyAt (at_ c (sFs r)) () N) ∗ atPos ER (at_ c (sFs r)) 0 ∅ 0 ∗ ow c 0 ∗ rxPts c r fullShare.right (PV m (xp c))
        ∗ ((semVal (at_ c (sXs r)) 0 ∗ semVal (at_ c (sFs r)) 0 ∗ ow c 0 ∗ sendPts c r (PV m c) ∗ rxPts c r fullShare (PV m (xp c))) -∗ Kt ⟨⟩))
      ⊢ run c (drainStep r) Kt := by
  unfold drainStep
  simp only [Prog.lift, Prog.bind_op, Prog.bind_ret, Prog.pure_eq_ret]
  iintro ⟨#HR, Hc1, Hat1, Hc2, Hat2, HO, Hr, Hk⟩
  iapply (wait_gen m K c (slotM bufRx r) (slotM bufS r) (csem_xs r) (role_xs r) rfl rfl (above_zero _) Kt) $$ [Hc1 Hat1 HO]
  · isplitr; · iexact HR
    isplitl [Hc1]; · iexact Hc1
    isplitl [HO]; · iexact HO
    iexact Hat1
  iintro ⟨HO, Hz1, Hs⟩
  ihave Hs := (Entails.of_eq (show payOf m c (.xs r) false = sendPts c r (PV m c) from rfl)) $$ Hs
  iapply (wait_gen m K c (slotM bufRy r) (slotM bufRx r) (csem_fs r) (role_fs r) rfl rfl (above_zero _) Kt) $$ [Hc2 Hat2 HO]
  · isplitr; · iexact HR
    isplitl [Hc2]; · iexact Hc2
    isplitl [HO]; · iexact HO
    iexact Hat2
  iintro ⟨HO, Hz2, Hl⟩
  ihave Hl := (Entails.of_eq (show payOf m c (.fs r) false = rxPts c r fullShare.left (PV m (xp c)) from rfl)) $$ Hl
  iapply (run_ret c _ Kt)
  iapply Hk
  isplitl [Hz1]; · iexact Hz1
  isplitl [Hz2]; · iexact Hz2
  isplitl [HO]; · iexact HO
  isplitl [Hs]; · iexact Hs
  iapply (pointsTo_share (PosShare.mem_left_op_right fullShare)).2
  isplitl [Hl]; · iexact Hl
  iexact Hr

end Cert.KernelIdeal.Gen

end
-- ==== Proof.Begin.lean ====
/- The start of the body: both inputs copied in, both partners signalled, both signals and both copies awaited, the block
   of weights read. -/
module

public import proofs.«01_k».proof.Proof.Finish

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem load_w (f : S512x4096.Idx → Elt F .f32) :
    (bufW.access (Rect.unit (s := S512x4096) ![0, 0] S512x4096.size inb_S512x4096_S512x4096_0_0) : View sig .tc _ _ _).read (Elt F) f = f :=
  funext fun j => congrArg f (funext fun a => Fin.ext (by
    fin_cases a
    · show 0 + 1 * (j (0 : Fin 2)).val = (j (0 : Fin 2)).val; omega
    · show 0 + 1 * (j (1 : Fin 2)).val = (j (1 : Fin 2)).val; omega))

/-- The wait for both partners' signals: their landing buffers. -/
theorem bar_step (K : Dev nD × Fin 19 → ℕ) (c : Dev nD) {α : Type} (Q : α → sProp 𝕄) {k : PUnit → TProg F α}
    {O : CellTallies nD τ sig Unit} (hO : Above 1 O) :
    iprop(recs m K ∗ cred (tallyAt (at_ c sBar) () 2) ∗ ow c O ∗ atPos ER (at_ c sBar) 0 ∅ 0)
      ⊢ iprop(((ow c O ∗ semVal (at_ c sBar) 0 ∗ (∃ f, allPts (xp c) cc0_scratch3 f) ∗ (∃ f, allPts (yp c) cc0_scratch4 f)) -∗ run c (k ⟨⟩) Q)
          -∗ run c (.op (.semWait barrier0 2) k) Q) := by
  iintro ⟨#HR, Hc, ⟨%W, HO⟩, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_of m K c 0 csem_bar); iexact HR
    isplitl [Hc]; · iexact Hc
    isplitl [HO]; · iexact HO
    isplitr
    · iapply (mayWait_of m K c role_bar hO); iexact HR
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (at_ c sBar))) $$ [Hat] with Hz
  · isplitr; · iapply (inv_of m K c 0 csem_bar); iexact HR
    iexact Hat
  iapply Hk
  isplitl [HO]; · iexists _; iexact HO
  isplitl [Hz]; · iexact Hz
  iexact Hp

/-- A signal to a partner's barrier, paying one of its two duties. -/
theorem sig_gen (K : Dev nD × Fin 19 → ℕ) (c n c' : Dev nD) (hn : n = c') (d : Bool) (O₀ O : CellTallies nD τ sig Unit) (hO : O₀ = O + tallyAt (at_ c' sBar) () 1)
    {α : Type} (Q : α → sProp 𝕄) {k : PUnit → TProg F α} :
    iprop(recs m K ∗ ow c O₀ ∗ dutyTok ER (at_ c' sBar) 0 d ∗ payOf m c' .bar d)
      ⊢ iprop((ow c O -∗ run c (k ⟨⟩) Q) -∗ run c (.op (.semSignal (Dev.tc n : Thread nD τ) barrier0 1) k) Q) := by
  subst hn
  iintro ⟨#HR, ⟨%W, HO⟩, Ht, Hp⟩ Hk
  iapply (Rounds.wp_signal 𝒱₀ ER (Rd m) (c : Thread nD τ) none (dst := (n : Thread nD τ)) (κ := K (n, 0))
      (d := d) (mem_duties_bar m n d) ((amount_at m n role_bar d).trans (by decide)) () O hO) $$ [HO Ht Hp]
  · isplitr; · iapply (inv_of m K n 0 csem_bar); iexact HR
    isplitl [HO]; · iexact HO
    isplitl [Ht]; · iexact Ht
    isplitl [Hp]; · rw [payload_at m n role_bar]; iexact Hp
    iapply (reached_of m K n 0 csem_bar); iexact HR
  iintro HO
  iapply Hk
  iexists W; iexact HO

/-- What the start leaves: both inputs in the device's buffers, the partners' landing buffers, and the transfers owed. -/
theorem start_step (K : Dev nD × Fin 19 → ℕ) (c : Dev nD) (Kt : Vec F S512x4096 .f32 → sProp 𝕄) :
    iprop(recs m K ∗ allPts c main_arg1 (win m c) ∗ (∃ f, allPts c cc0_scratch1 f) ∗ dutyTok ER (at_ c sIn0) 0 false
        ∗ allPts c main_arg0 (xin m c) ∗ (∃ f, allPts c cc0_scratch0 f) ∗ dutyTok ER (at_ c sIn1) 0 false
        ∗ ow c (O₀ c) ∗ dutyTok ER (at_ (xp c) sBar) 0 false ∗ dutyTok ER (at_ (yp c) sBar) 0 true
        ∗ (∃ f, allPts c cc0_scratch3 f) ∗ (∃ f, allPts c cc0_scratch4 f)
        ∗ cred (tallyAt (at_ c sBar) () 2) ∗ atPos ER (at_ c sBar) 0 ∅ 0 ∗ atPos ER (at_ c sIn0) 0 ∅ 0 ∗ atPos ER (at_ c sIn1) 0 ∅ 0
        ∗ ((ow c (owY c 0 + owX c 0) ∗ semVal (at_ c sBar) 0 ∗ semVal (at_ c sIn0) 0 ∗ semVal (at_ c sIn1) 0
            ∗ (∃ f, allPts (xp c) cc0_scratch3 f) ∗ (∃ f, allPts (yp c) cc0_scratch4 f)
            ∗ allPts c cc0_scratch1 (win m c) ∗ allPts c main_arg1 (win m c) ∗ allPts c cc0_scratch0 (xin m c) ∗ allPts c main_arg0 (xin m c))
          -∗ Kt (win m c)))
      ⊢ run c (start c) Kt := by
  unfold start
  simp only [semSignalWord, semWaitWord, Prog.lift, Prog.bind_op, Prog.bind_ret, Prog.pure_eq_ret]
  iintro ⟨#HR, HaW, ⟨%fw, HsW⟩, HtW, HaX, ⟨%fx, HsX⟩, HtX, HO, HtB1, HtB2, Hrx, Hry, HcB, HatB, HatW, HatX, Hk⟩
  iapply (copy_gen m K c hbmW bufW csem_in0 role_in0 rfl rfl fullShare (win m c) fw
    (by rw [View.set_whole, View.set_whole, View.write_whole_univ, View.read_whole]; exact BI.Entails.refl _) Kt) $$ [HaW HsW HtW]
  · isplitr; · iexact HR
    isplitl [HaW]; · rw [View.set_whole]; iexact HaW
    isplitl [HsW]; · rw [View.set_whole]; iexact HsW
    iexact HtW
  iintro HcW
  iapply (copy_gen m K c hbmX bufX csem_in1 role_in1 rfl rfl fullShare (xin m c) fx
    (by rw [View.set_whole, View.set_whole, View.write_whole_univ, View.read_whole]; exact BI.Entails.refl _) Kt) $$ [HaX HsX HtX]
  · isplitr; · iexact HR
    isplitl [HaX]; · rw [View.set_whole]; iexact HaX
    isplitl [HsX]; · rw [View.set_whole]; iexact HsX
    iexact HtX
  iintro HcX
  iapply (sig_gen m K c _ (xp c) (dev1_eq c) false (O₀ c) (O₁ c) rfl Kt) $$ [HO HtB1 Hrx]
  · isplitr; · iexact HR
    isplitl [HO]; · iexact HO
    isplitl [HtB1]; · iexact HtB1
    iapply (Entails.of_eq (show iprop(∃ f, allPts (xp (xp c)) cc0_scratch3 f) = payOf m (xp c) .bar false from rfl))
    rw [xp_xp]; iexact Hrx
  iintro HO
  iapply (sig_gen m K c _ (yp c) (dev2_eq c) true (O₁ c) (owY c 0 + owX c 0) rfl Kt) $$ [HO HtB2 Hry]
  · isplitr; · iexact HR
    isplitl [HO]; · iexact HO
    isplitl [HtB2]; · iexact HtB2
    iapply (Entails.of_eq (show iprop(∃ f, allPts (yp (yp c)) cc0_scratch4 f) = payOf m (yp c) .bar true from rfl))
    rw [yp_yp]; iexact Hry
  iintro HO
  iapply (bar_step m K c Kt ((above_owY c 0 (by decide)).add (above_owX c 0 (by decide)))) $$ [HcB HO HatB]
  · isplitr; · iexact HR
    isplitl [HcB]; · iexact HcB
    isplitl [HO]; · iexact HO
    iexact HatB
  iintro ⟨HO, HzB, Hrx, Hry⟩
  iapply (wait_gen m K c hbmW bufW csem_in0 role_in0 rfl rfl ((above_owY c 0 (by decide)).add (above_owX c 0 (by decide))) Kt) $$ [HcW HO HatW]
  · isplitr; · iexact HR
    isplitl [HcW]; · iexact HcW
    isplitl [HO]; · iexact HO
    iexact HatW
  iintro ⟨HO, HzW, Hp⟩
  ihave Hp := (Entails.of_eq (show payOf m c .in0 false = iprop(allPts c cc0_scratch1 (win m c) ∗ allPts c main_arg1 (win m c)) from rfl)) $$ Hp
  icases Hp with ⟨HsW, HaW⟩
  iapply (wait_gen m K c hbmX bufX csem_in1 role_in1 rfl rfl ((above_owY c 0 (by decide)).add (above_owX c 0 (by decide))) Kt) $$ [HcX HO HatX]
  · isplitr; · iexact HR
    isplitl [HcX]; · iexact HcX
    isplitl [HO]; · iexact HO
    iexact HatX
  iintro ⟨HO, HzX, Hp⟩
  ihave Hp := (Entails.of_eq (show payOf m c .in1 false = iprop(allPts c cc0_scratch0 (xin m c) ∗ allPts c main_arg0 (xin m c)) from rfl)) $$ Hp
  icases Hp with ⟨HsX, HaX⟩
  iapply (load_rect c bufW (Eq.refl ![0, 0]) inb_S512x4096_S512x4096_0_0 Finset.univ (Finset.subset_univ _) fullShare (win m c)
    (win m c) (load_w _)) $$ HsW
  iintro HsW
  iapply (run_ret c _ Kt)
  iapply Hk
  isplitl [HO]; · iexact HO
  isplitl [HzB]; · iexact HzB
  isplitl [HzW]; · iexact HzW
  isplitl [HzX]; · iexact HzX
  isplitl [Hrx]; · iexact Hrx
  isplitl [Hry]; · iexact Hry
  isplitl [HsW]; · iexact HsW
  isplitl [HaW]; · iexact HaW
  isplitl [HsX]; · iexact HsX
  iexact HaX

end Cert.KernelIdeal.Gen

end
-- ==== Proof.Pieces.lean ====
/- The buffers cut into the chunks' pieces: a whole buffer is its pieces, the pieces of the device's own chunks and those of
   the other chunks. -/
module

public import proofs.«01_k».proof.Proof.Begin

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over four chunks. -/
abbrev four (Φ : Fin 4 → sProp 𝕄) : sProp 𝕄 := bigSep Finset.univ Φ

theorem chunks_nodup : ∀ c : Dev nD, [ownb c 0, ownb c 1, ownb c 2, ownb c 3, othb c 0, othb c 1, othb c 2, othb c 3].Nodup := by decide
theorem chunks_all : ∀ c : Dev nD, Finset.univ = [ownb c 0, ownb c 1, ownb c 2, ownb c 3, othb c 0, othb c 1, othb c 2, othb c 3].toFinset := by decide

omit [FloatOps F] in
/-- The eight chunks are a device's own four and the other four. -/
theorem eight_split (c : Dev nD) (Φ : Fin 8 → sProp 𝕄) :
    bigSep Finset.univ Φ = iprop(four (fun r => Φ (ownb c r)) ∗ four (fun r => Φ (othb c r))) := by
  unfold four
  rw [bigSep_fin4, bigSep_fin4, bigSep_univ_eq_bigSepL [ownb c 0, ownb c 1, ownb c 2, ownb c 3, othb c 0, othb c 1, othb c 2, othb c 3]
    (chunks_all c) (chunks_nodup c)]
  apply BI.Entails.antisymm
  · show iprop(Φ (ownb c 0) ∗ Φ (ownb c 1) ∗ Φ (ownb c 2) ∗ Φ (ownb c 3) ∗ Φ (othb c 0) ∗ Φ (othb c 1) ∗ Φ (othb c 2) ∗ Φ (othb c 3)) ⊢ _
    iintro ⟨H0, H1, H2, H3, H4⟩
    isplitl [H0 H1 H2 H3]
    · isplitl [H0]; · iexact H0
      isplitl [H1]; · iexact H1
      isplitl [H2]; · iexact H2
      iexact H3
    iexact H4
  · show _ ⊢ iprop(Φ (ownb c 0) ∗ Φ (ownb c 1) ∗ Φ (ownb c 2) ∗ Φ (ownb c 3) ∗ Φ (othb c 0) ∗ Φ (othb c 1) ∗ Φ (othb c 2) ∗ Φ (othb c 3))
    iintro ⟨⟨H0, H1, H2, H3⟩, H4⟩
    isplitl [H0]; · iexact H0
    isplitl [H1]; · iexact H1
    isplitl [H2]; · iexact H2
    isplitl [H3]; · iexact H3
    iexact H4

omit [FloatOps F] in
/-- A whole buffer cut into pieces that are disjoint and cover it. -/
theorem whole_pieces (c : Dev nD) (b : Ref sig .tc) {T : Type} [Fintype T] [DecidableEq T] (S : T → Finset (Idx ((c : Thread nD τ).loc b)))
    (hd : ∀ t t', t ≠ t' → Disjoint (S t) (S t')) (hc : ∀ i, ∃ t, i ∈ S t) (f : Buf (Elt F) ((c : Thread nD τ).loc b)) :
    (allPts c b f : sProp 𝕄) = bigSep Finset.univ fun t => slotPts c b (S t) fullShare f := by
  have hu : (Finset.univ : Finset (Idx ((c : Thread nD τ).loc b))) = Finset.univ.biUnion S := by
    refine (Finset.eq_univ_iff_forall.mpr fun i => ?_).symm
    obtain ⟨t, ht⟩ := hc i
    exact Finset.mem_biUnion.mpr ⟨t, Finset.mem_univ _, ht⟩
  show (slotPts c b Finset.univ fullShare f : sProp 𝕄) = _
  rw [hu]
  exact pointsTo_biUnion Finset.univ S fun t _ t' _ h => hd t t' h

theorem slot_disj (r r' : Fin 4) (h : r ≠ r') : Disjoint (slotR r).set (slotR r').set :=
  Rect.unit_disjoint (s := S4x32x4224) (0 : Fin 3) (by
    have : r.val ≠ r'.val := fun e => h (Fin.ext e)
    show r.val + 1 ≤ r'.val ∨ r'.val + 1 ≤ r.val; omega)
theorem blkE_disj (b b' : Fin 8) (h : b ≠ b') : Disjoint (blkE b).set (blkE b').set :=
  Rect.unit_disjoint (s := S256x4096) (0 : Fin 2) (by
    have : b.val ≠ b'.val := fun e => h (Fin.ext e)
    show 32 * b.val + 32 ≤ 32 * b'.val ∨ 32 * b'.val + 32 ≤ 32 * b.val; omega)
theorem blkT_disj (b b' : Fin 8) (h : b ≠ b') : Disjoint (blkT b).set (blkT b').set :=
  Rect.unit_disjoint (s := S256x1) (0 : Fin 2) (by
    have : b.val ≠ b'.val := fun e => h (Fin.ext e)
    show 32 * b.val + 32 ≤ 32 * b'.val ∨ 32 * b'.val + 32 ≤ 32 * b.val; omega)
theorem blkO_disj (p p' : Fin 8 × Fin 2) (h : p ≠ p') : Disjoint (blkO p.1 p.2).set (blkO p'.1 p'.2).set := by
  by_cases h0 : p.1.val = p'.1.val
  · refine Rect.unit_disjoint (s := S256x8192) (1 : Fin 2) ?_
    have : p.2.val ≠ p'.2.val := fun e => h (Prod.ext (Fin.ext h0) (Fin.ext e))
    show 4096 * p.2.val + 4096 ≤ 4096 * p'.2.val ∨ 4096 * p'.2.val + 4096 ≤ 4096 * p.2.val; omega
  · refine Rect.unit_disjoint (s := S256x8192) (0 : Fin 2) ?_
    show 32 * p.1.val + 32 ≤ 32 * p'.1.val ∨ 32 * p'.1.val + 32 ≤ 32 * p.1.val; omega

theorem slot_cover (i : S4x32x4224.Idx) : ∃ r, i ∈ (slotR r).set := ⟨i (0 : Fin 3), Rect.mem_set_unit.mpr fun a => by
  fin_cases a
  · exact ⟨le_rfl, Nat.lt_succ_self _⟩
  · exact ⟨Nat.zero_le _, by have : (i (1 : Fin 3)).val < 32 := (i (1 : Fin 3)).isLt; show (i (1 : Fin 3)).val < 0 + 32; omega⟩
  · exact ⟨Nat.zero_le _, by have : (i (2 : Fin 3)).val < 4224 := (i (2 : Fin 3)).isLt; show (i (2 : Fin 3)).val < 0 + 4224; omega⟩⟩
theorem blkE_cover (i : S256x4096.Idx) : ∃ b, i ∈ (blkE b).set := ⟨bE i, Rect.mem_set_unit.mpr fun a => by
  fin_cases a
  · show 32 * ((i (0 : Fin 2)).val / 32) ≤ (i (0 : Fin 2)).val ∧ (i (0 : Fin 2)).val < 32 * ((i (0 : Fin 2)).val / 32) + 32; omega
  · exact ⟨Nat.zero_le _, by have : (i (1 : Fin 2)).val < 4096 := (i (1 : Fin 2)).isLt; show (i (1 : Fin 2)).val < 0 + 4096; omega⟩⟩
theorem blkT_cover (i : S256x1.Idx) : ∃ b, i ∈ (blkT b).set := ⟨bT i, Rect.mem_set_unit.mpr fun a => by
  fin_cases a
  · show 32 * ((i (0 : Fin 2)).val / 32) ≤ (i (0 : Fin 2)).val ∧ (i (0 : Fin 2)).val < 32 * ((i (0 : Fin 2)).val / 32) + 32; omega
  · exact ⟨Nat.zero_le _, by have : (i (1 : Fin 2)).val < 1 := (i (1 : Fin 2)).isLt; show (i (1 : Fin 2)).val < 0 + 1; omega⟩⟩
theorem blkO_cover (i : S256x8192.Idx) : ∃ p : Fin 8 × Fin 2, i ∈ (blkO p.1 p.2).set := ⟨(bO i, hO i), Rect.mem_set_unit.mpr fun a => by
  fin_cases a
  · show 32 * ((i (0 : Fin 2)).val / 32) ≤ (i (0 : Fin 2)).val ∧ (i (0 : Fin 2)).val < 32 * ((i (0 : Fin 2)).val / 32) + 32; omega
  · show 4096 * ((i (1 : Fin 2)).val / 4096) ≤ (i (1 : Fin 2)).val ∧ (i (1 : Fin 2)).val < 4096 * ((i (1 : Fin 2)).val / 4096) + 4096; omega⟩

section Split
variable (c : Dev nD)

omit [FloatOps F] in
theorem send_split (f : S4x32x4224.Idx → Elt F .bf16) : (allPts c cc0_scratch2 f : sProp 𝕄) = four fun r => sendPts c r f :=
  whole_pieces c cc0_scratch2 (fun r => (slotR r).set) slot_disj slot_cover f
omit [FloatOps F] in
theorem rx_split (f : S4x32x4224.Idx → Elt F .bf16) : (allPts c cc0_scratch3 f : sProp 𝕄) = four fun r => rxPts c r fullShare f :=
  whole_pieces c cc0_scratch3 (fun r => (slotR r).set) slot_disj slot_cover f
omit [FloatOps F] in
theorem ry_split (f : S4x32x4224.Idx → Elt F .bf16) : (allPts c cc0_scratch4 f : sProp 𝕄) = four fun r => ryPts c r f :=
  whole_pieces c cc0_scratch4 (fun r => (slotR r).set) slot_disj slot_cover f
omit [FloatOps F] in
theorem e_split (f : S256x4096.Idx → Elt F .f32) :
    (allPts c cc0_scratch5 f : sProp 𝕄) = iprop(four (fun r => ePts c (ownb c r) f) ∗ four (fun r => ePts c (othb c r) f)) :=
  (whole_pieces c cc0_scratch5 (fun b => (blkE b).set) blkE_disj blkE_cover f).trans (eight_split c fun b => ePts c b f)
omit [FloatOps F] in
theorem t_split (f : S256x1.Idx → Elt F .f32) :
    (allPts c cc0_scratch6 f : sProp 𝕄) = iprop(four (fun r => tPts c (ownb c r) f) ∗ four (fun r => tPts c (othb c r) f)) :=
  (whole_pieces c cc0_scratch6 (fun b => (blkT b).set) blkT_disj blkT_cover f).trans (eight_split c fun b => tPts c b f)

theorem halves_nodup : ∀ c : Dev nD, [hown c, hoth c].Nodup := by decide
theorem halves_all : ∀ c : Dev nD, Finset.univ = [hown c, hoth c].toFinset := by decide
omit [FloatOps F] in
theorem o_split (f : S256x8192.Idx → Elt F .f32) :
    (allPts c cc0_stg0_0 f : sProp 𝕄) = iprop((four (fun r => oPts c (ownb c r) (hown c) f) ∗ four (fun r => oPts c (ownb c r) (hoth c) f))
      ∗ four (fun r => oPts c (othb c r) (hown c) f) ∗ four (fun r => oPts c (othb c r) (hoth c) f)) := by
  rw [whole_pieces c cc0_stg0_0 (fun p : Fin 8 × Fin 2 => (blkO p.1 p.2).set) blkO_disj blkO_cover f,
    bigSep_univ_prod (fun p : Fin 8 × Fin 2 => (oPts c p.1 p.2 f : sProp 𝕄)),
    bigSep_congr fun b _ => bigSep_univ_eq_bigSepL [hown c, hoth c] (halves_all c) (halves_nodup c) (fun h => (oPts c b h f : sProp 𝕄)),
    eight_split c]
  unfold four
  rw [← bigSep_sep', ← bigSep_sep', ← bigSep_sep', ← bigSep_sep']
  rfl

omit [FloatOps F] in
/-- A family at one contents is a family at some contents. -/
theorem four_some {T : Type} (Φ : Fin 4 → T → sProp 𝕄) (f : T) : (four fun r => Φ r f) ⊢ four fun r => iprop(∃ f, Φ r f) :=
  bigSep_mono fun r _ => by
    show Φ r f ⊢ iprop(∃ f, Φ r f)
    iintro H
    iexists f
    iexact H
end Split

end Cert.KernelIdeal.Gen

end
-- ==== Proof.Body.lean ====
/- The whole body, at a symbolic device: its six phases in order, each the step lemma four times. -/
module

public import proofs.«01_k».proof.Proof.Pieces

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Four steps in a row, each taking its own resources `A r` to `B r` and moving the threaded resource `I` on by one. -/
theorem four_run (K : Dev nD × Fin 19 → ℕ) (c : Dev nD) (A B : Fin 4 → sProp 𝕄) (I : ℕ → sProp 𝕄) (p : Fin 4 → TProg F PUnit)
    (h : ∀ (r : Fin 4) (Kt : PUnit → sProp 𝕄), iprop(recs m K ∗ A r ∗ I r.val ∗ ((B r ∗ I (r.val + 1)) -∗ Kt ⟨⟩)) ⊢ run c (p r) Kt)
    {α : Type} (Q : α → sProp 𝕄) (k : TProg F α) :
    iprop(recs m K ∗ four A ∗ I 0 ∗ ((four B ∗ I 4) -∗ run c k Q))
      ⊢ run c (p 0 >>= fun _ => p 1 >>= fun _ => p 2 >>= fun _ => p 3 >>= fun _ => k) Q := by
  have h0 : ∀ Kt : PUnit → sProp 𝕄, iprop(recs m K ∗ A 0 ∗ I 0 ∗ ((B 0 ∗ I 1) -∗ Kt ⟨⟩)) ⊢ run c (p 0) Kt := h 0
  have h1 : ∀ Kt : PUnit → sProp 𝕄, iprop(recs m K ∗ A 1 ∗ I 1 ∗ ((B 1 ∗ I 2) -∗ Kt ⟨⟩)) ⊢ run c (p 1) Kt := h 1
  have h2 : ∀ Kt : PUnit → sProp 𝕄, iprop(recs m K ∗ A 2 ∗ I 2 ∗ ((B 2 ∗ I 3) -∗ Kt ⟨⟩)) ⊢ run c (p 2) Kt := h 2
  have h3 : ∀ Kt : PUnit → sProp 𝕄, iprop(recs m K ∗ A 3 ∗ I 3 ∗ ((B 3 ∗ I 4) -∗ Kt ⟨⟩)) ⊢ run c (p 3) Kt := h 3
  unfold four
  rw [bigSep_fin4, bigSep_fin4]
  iintro ⟨#HR, ⟨A0, A1, A2, A3⟩, HI, Hk⟩
  iapply (run_bind c (p 0) _ Q)
  iapply (h0 _)
  isplitr; · iexact HR
  isplitl [A0]; · iexact A0
  isplitl [HI]; · iexact HI
  iintro ⟨B0, HI⟩
  iapply (run_bind c (p 1) _ Q)
  iapply (h1 _)
  isplitr; · iexact HR
  isplitl [A1]; · iexact A1
  isplitl [HI]; · iexact HI
  iintro ⟨B1, HI⟩
  iapply (run_bind c (p 2) _ Q)
  iapply (h2 _)
  isplitr; · iexact HR
  isplitl [A2]; · iexact A2
  isplitl [HI]; · iexact HI
  iintro ⟨B2, HI⟩
  iapply (run_bind c (p 3) _ Q)
  iapply (h3 _)
  isplitr; · iexact HR
  isplitl [A3]; · iexact A3
  isplitl [HI]; · iexact HI
  iintro ⟨B3, HI⟩
  iapply Hk
  isplitl [B0 B1 B2 B3]
  · isplitl [B0]; · iexact B0
    isplitl [B1]; · iexact B1
    isplitl [B2]; · iexact B2
    iexact B3
  iexact HI

/-- The same where the fourth step ends the program. -/
theorem four_end (K : Dev nD × Fin 19 → ℕ) (c : Dev nD) (A B : Fin 4 → sProp 𝕄) (I : ℕ → sProp 𝕄) (p : Fin 4 → TProg F PUnit)
    (h : ∀ (r : Fin 4) (Kt : PUnit → sProp 𝕄), iprop(recs m K ∗ A r ∗ I r.val ∗ ((B r ∗ I (r.val + 1)) -∗ Kt ⟨⟩)) ⊢ run c (p r) Kt)
    (Q : PUnit → sProp 𝕄) :
    iprop(recs m K ∗ four A ∗ I 0 ∗ ((four B ∗ I 4) -∗ Q ⟨⟩)) ⊢ run c (p 0 >>= fun _ => p 1 >>= fun _ => p 2 >>= fun _ => p 3) Q := by
  have h0 : ∀ Kt : PUnit → sProp 𝕄, iprop(recs m K ∗ A 0 ∗ I 0 ∗ ((B 0 ∗ I 1) -∗ Kt ⟨⟩)) ⊢ run c (p 0) Kt := h 0
  have h1 : ∀ Kt : PUnit → sProp 𝕄, iprop(recs m K ∗ A 1 ∗ I 1 ∗ ((B 1 ∗ I 2) -∗ Kt ⟨⟩)) ⊢ run c (p 1) Kt := h 1
  have h2 : ∀ Kt : PUnit → sProp 𝕄, iprop(recs m K ∗ A 2 ∗ I 2 ∗ ((B 2 ∗ I 3) -∗ Kt ⟨⟩)) ⊢ run c (p 2) Kt := h 2
  have h3 : ∀ Kt : PUnit → sProp 𝕄, iprop(recs m K ∗ A 3 ∗ I 3 ∗ ((B 3 ∗ I 4) -∗ Kt ⟨⟩)) ⊢ run c (p 3) Kt := h 3
  unfold four
  rw [bigSep_fin4, bigSep_fin4]
  iintro ⟨#HR, ⟨A0, A1, A2, A3⟩, HI, Hk⟩
  iapply (run_bind c (p 0) _ Q)
  iapply (h0 _)
  isplitr; · iexact HR
  isplitl [A0]; · iexact A0
  isplitl [HI]; · iexact HI
  iintro ⟨B0, HI⟩
  iapply (run_bind c (p 1) _ Q)
  iapply (h1 _)
  isplitr; · iexact HR
  isplitl [A1]; · iexact A1
  isplitl [HI]; · iexact HI
  iintro ⟨B1, HI⟩
  iapply (run_bind c (p 2) _ Q)
  iapply (h2 _)
  isplitr; · iexact HR
  isplitl [A2]; · iexact A2
  isplitl [HI]; · iexact HI
  iintro ⟨B2, HI⟩
  iapply (h3 _)
  isplitr; · iexact HR
  isplitl [A3]; · iexact A3
  isplitl [HI]; · iexact HI
  iintro ⟨B3, HI⟩
  iapply Hk
  isplitl [B0 B1 B2 B3]
  · isplitl [B0]; · iexact B0
    isplitl [B1]; · iexact B1
    isplitl [B2]; · iexact B2
    iexact B3
  iexact HI

section Phases
variable (K : Dev nD × Fin 19 → ℕ) (c : Dev nD)

/-- The own chunks: each stored, sent to the partner along x, and kept. -/
theorem own_phase {α : Type} (Q : α → sProp 𝕄) (k : TProg F α) :
    iprop(recs m K ∗ (four (fun r => iprop(∃ f, sendPts c r f)) ∗ four (fun r => iprop(∃ f, rxPts (xp c) r fullShare f))
        ∗ four (fun r => iprop(∃ f, ePts c (ownb c r) f)) ∗ four (fun r => iprop(∃ f, tPts c (ownb c r) f))
        ∗ four (fun r => dutyTok ER (at_ c (sXs r)) 0 false) ∗ four (fun r => dutyTok ER (at_ (xp c) (sXr r)) 0 false))
        ∗ (allPts c cc0_scratch0 (xin m c) ∗ ow c (owY c 0 + owX c 0))
        ∗ (((four (fun r => ePts c (ownb c r) (EV m c)) ∗ four (fun r => tPts c (ownb c r) (TV m c)) ∗ four (fun r => cred (tallyAt (at_ c (sXs r)) () N)))
            ∗ (allPts c cc0_scratch0 (xin m c) ∗ ow c (owY c 0 + owX c 4))) -∗ run c k Q))
      ⊢ run c (ownStep c (win m c) 0 >>= fun _ => ownStep c (win m c) 1 >>= fun _ => ownStep c (win m c) 2 >>= fun _ => ownStep c (win m c) 3 >>= fun _ => k) Q := by
  unfold four
  simp only [← bigSep_sep']
  refine four_run m K c _ _ (fun n => iprop(allPts c cc0_scratch0 (xin m c) ∗ ow c (owY c 0 + owX c n))) (ownStep c (win m c)) (fun r Kt => ?_) Q k
  iintro ⟨#HR, ⟨Hs, Hr, He, Ht, Hd1, Hd2⟩, ⟨Hx, HO⟩, Hk⟩
  iapply (own_step m K c r Kt)
  isplitr; · iexact HR
  isplitl [Hx]; · iexact Hx
  isplitl [Hs]; · iexact Hs
  isplitl [Hr]; · iexact Hr
  isplitl [He]; · iexact He
  isplitl [Ht]; · iexact Ht
  isplitl [HO]; · iexact HO
  isplitl [Hd1]; · iexact Hd1
  isplitl [Hd2]; · iexact Hd2
  iintro ⟨Hx, He, Ht, HO, Hc⟩
  iapply Hk
  isplitl [He Ht Hc]
  · isplitl [He]; · iexact He
    isplitl [Ht]; · iexact Ht
    iexact Hc
  isplitl [Hx]; · iexact Hx
  iexact HO

/-- The other chunks: each computed and kept. -/
theorem oth_phase {α : Type} (Q : α → sProp 𝕄) (k : TProg F α) :
    iprop(recs m K ∗ (four (fun r => iprop(∃ f, ePts c (othb c r) f)) ∗ four (fun r => iprop(∃ f, tPts c (othb c r) f)))
        ∗ allPts c cc0_scratch0 (xin m c)
        ∗ (((four (fun r => ePts c (othb c r) (EV m c)) ∗ four (fun r => tPts c (othb c r) (TV m c)))
            ∗ allPts c cc0_scratch0 (xin m c)) -∗ run c k Q))
      ⊢ run c (othStep c (win m c) 0 >>= fun _ => othStep c (win m c) 1 >>= fun _ => othStep c (win m c) 2 >>= fun _ => othStep c (win m c) 3 >>= fun _ => k) Q := by
  unfold four
  simp only [← bigSep_sep']
  refine four_run m K c _ _ (fun _ => allPts c cc0_scratch0 (xin m c)) (othStep c (win m c)) (fun r Kt => ?_) Q k
  iintro ⟨#HR, ⟨He, Ht⟩, Hx, Hk⟩
  iapply (oth_step m c r Kt)
  isplitl [Hx]; · iexact Hx
  isplitl [He]; · iexact He
  isplitl [Ht]; · iexact Ht
  iintro ⟨Hx, He, Ht⟩
  iapply Hk
  isplitl [He Ht]
  · isplitl [He]; · iexact He
    iexact Ht
  iexact Hx

/-- The partner's chunks arrive, are forwarded along y, and the own rows are finished. -/
theorem fin_phase {α : Type} (Q : α → sProp 𝕄) (k : TProg F α) :
    iprop(recs m K ∗ (four (fun r => cred (tallyAt (at_ c (sXr r)) () N)) ∗ four (fun r => atPos ER (at_ c (sXr r)) 0 ∅ 0)
        ∗ four (fun r => iprop(∃ f, ryPts (yp c) r f)) ∗ four (fun r => dutyTok ER (at_ c (sFs r)) 0 false) ∗ four (fun r => dutyTok ER (at_ (yp c) (sFr r)) 0 false)
        ∗ four (fun r => ePts c (ownb c r) (EV m c)) ∗ four (fun r => tPts c (ownb c r) (TV m c))
        ∗ four (fun r => iprop(∃ f, oPts c (ownb c r) (hown c) f)) ∗ four (fun r => iprop(∃ f, oPts c (ownb c r) (hoth c) f)))
        ∗ ow c (owY c 0)
        ∗ (((four (fun r => semVal (at_ c (sXr r)) 0) ∗ four (fun r => rxPts c r fullShare.right (PV m (xp c))) ∗ four (fun r => cred (tallyAt (at_ c (sFs r)) () N))
            ∗ four (fun r => ePts c (ownb c r) (EV m c)) ∗ four (fun r => tPts c (ownb c r) (TV m c))
            ∗ four (fun r => oPts c (ownb c r) (hown c) (OV m c)) ∗ four (fun r => oPts c (ownb c r) (hoth c) (OV m c)))
            ∗ ow c (owY c 4)) -∗ run c k Q))
      ⊢ run c (finStep bufO c 0 >>= fun _ => finStep bufO c 1 >>= fun _ => finStep bufO c 2 >>= fun _ => finStep bufO c 3 >>= fun _ => k) Q := by
  unfold four
  simp only [← bigSep_sep']
  refine four_run m K c _ _ (fun n => ow c (owY c n)) (finStep bufO c) (fun r Kt => ?_) Q k
  iintro ⟨#HR, ⟨Hc, Hat, Hr, Hd1, Hd2, He, Ht, Ho1, Ho2⟩, HO, Hk⟩
  iapply (fin_step m K c r Kt)
  isplitr; · iexact HR
  isplitl [Hc]; · iexact Hc
  isplitl [Hat]; · iexact Hat
  isplitl [HO]; · iexact HO
  isplitl [Hr]; · iexact Hr
  isplitl [Hd1]; · iexact Hd1
  isplitl [Hd2]; · iexact Hd2
  isplitl [He]; · iexact He
  isplitl [Ht]; · iexact Ht
  isplitl [Ho1]; · iexact Ho1
  isplitl [Ho2]; · iexact Ho2
  iintro ⟨Hz, Hx, Hc, HO, He, Ht, Ho1, Ho2⟩
  iapply Hk
  isplitr [HO]
  · isplitl [Hz]; · iexact Hz
    isplitl [Hx]; · iexact Hx
    isplitl [Hc]; · iexact Hc
    isplitl [He]; · iexact He
    isplitl [Ht]; · iexact Ht
    isplitl [Ho1]; · iexact Ho1
    iexact Ho2
  iexact HO

/-- The forwarded chunks arrive and the other rows are finished. -/
theorem last_phase {α : Type} (Q : α → sProp 𝕄) (k : TProg F α) :
    iprop(recs m K ∗ (four (fun r => cred (tallyAt (at_ c (sFr r)) () N)) ∗ four (fun r => atPos ER (at_ c (sFr r)) 0 ∅ 0)
        ∗ four (fun r => ePts c (othb c r) (EV m c)) ∗ four (fun r => tPts c (othb c r) (TV m c))
        ∗ four (fun r => iprop(∃ f, oPts c (othb c r) (hown c) f)) ∗ four (fun r => iprop(∃ f, oPts c (othb c r) (hoth c) f)))
        ∗ ow c 0
        ∗ (((four (fun r => semVal (at_ c (sFr r)) 0) ∗ four (fun r => ryPts c r (PV m (xp (yp c))))
            ∗ four (fun r => ePts c (othb c r) (EV m c)) ∗ four (fun r => tPts c (othb c r) (TV m c))
            ∗ four (fun r => oPts c (othb c r) (hown c) (OV m c)) ∗ four (fun r => oPts c (othb c r) (hoth c) (OV m c)))
            ∗ ow c 0) -∗ run c k Q))
      ⊢ run c (lastStep bufO c 0 >>= fun _ => lastStep bufO c 1 >>= fun _ => lastStep bufO c 2 >>= fun _ => lastStep bufO c 3 >>= fun _ => k) Q := by
  unfold four
  simp only [← bigSep_sep']
  refine four_run m K c _ _ (fun _ => ow c 0) (lastStep bufO c) (fun r Kt => ?_) Q k
  iintro ⟨#HR, ⟨Hc, Hat, He, Ht, Ho1, Ho2⟩, HO, Hk⟩
  iapply (last_step m K c r Kt)
  isplitr; · iexact HR
  isplitl [Hc]; · iexact Hc
  isplitl [Hat]; · iexact Hat
  isplitl [HO]; · iexact HO
  isplitl [He]; · iexact He
  isplitl [Ht]; · iexact Ht
  isplitl [Ho1]; · iexact Ho1
  isplitl [Ho2]; · iexact Ho2
  iintro ⟨Hz, Hx, HO, He, Ht, Ho1, Ho2⟩
  iapply Hk
  isplitr [HO]
  · isplitl [Hz]; · iexact Hz
    isplitl [Hx]; · iexact Hx
    isplitl [He]; · iexact He
    isplitl [Ht]; · iexact Ht
    isplitl [Ho1]; · iexact Ho1
    iexact Ho2
  iexact HO

/-- The sends are awaited, which returns what they read. -/
theorem drain_phase (Q : PUnit → sProp 𝕄) :
    iprop(recs m K ∗ (four (fun r => cred (tallyAt (at_ c (sXs r)) () N)) ∗ four (fun r => atPos ER (at_ c (sXs r)) 0 ∅ 0)
        ∗ four (fun r => cred (tallyAt (at_ c (sFs r)) () N)) ∗ four (fun r => atPos ER (at_ c (sFs r)) 0 ∅ 0)
        ∗ four (fun r => rxPts c r fullShare.right (PV m (xp c))))
        ∗ ow c 0
        ∗ (((four (fun r => semVal (at_ c (sXs r)) 0) ∗ four (fun r => semVal (at_ c (sFs r)) 0)
            ∗ four (fun r => sendPts c r (PV m c)) ∗ four (fun r => rxPts c r fullShare (PV m (xp c))))
            ∗ ow c 0) -∗ Q ⟨⟩))
      ⊢ run c (drainStep 0 >>= fun _ => drainStep 1 >>= fun _ => drainStep 2 >>= fun _ => drainStep 3) Q := by
  unfold four
  simp only [← bigSep_sep']
  refine four_end m K c _ _ (fun _ => ow c 0) drainStep (fun r Kt => ?_) Q
  iintro ⟨#HR, ⟨Hc1, Hat1, Hc2, Hat2, Hr⟩, HO, Hk⟩
  iapply (drain_step m K c r Kt)
  isplitr; · iexact HR
  isplitl [Hc1]; · iexact Hc1
  isplitl [Hat1]; · iexact Hat1
  isplitl [Hc2]; · iexact Hc2
  isplitl [Hat2]; · iexact Hat2
  isplitl [HO]; · iexact HO
  isplitl [Hr]; · iexact Hr
  iintro ⟨Hz1, Hz2, HO, Hs, Hx⟩
  iapply Hk
  isplitr [HO]
  · isplitl [Hz1]; · iexact Hz1
    isplitl [Hz2]; · iexact Hz2
    isplitl [Hs]; · iexact Hs
    iexact Hx
  iexact HO
end Phases

/-- A device's positions at its own cells, each at its start. -/
def posns (c : Dev nD) : sProp 𝕄 :=
  iprop(atPos ER (at_ c sBar) 0 ∅ 0 ∗ atPos ER (at_ c sIn0) 0 ∅ 0 ∗ atPos ER (at_ c sIn1) 0 ∅ 0
    ∗ four (fun r => atPos ER (at_ c (sXs r)) 0 ∅ 0) ∗ four (fun r => atPos ER (at_ c (sXr r)) 0 ∅ 0)
    ∗ four (fun r => atPos ER (at_ c (sFs r)) 0 ∅ 0) ∗ four (fun r => atPos ER (at_ c (sFr r)) 0 ∅ 0))
/-- The tokens of the duties a device pays. -/
def payToks (c : Dev nD) : sProp 𝕄 :=
  iprop(dutyTok ER (at_ (xp c) sBar) 0 false ∗ dutyTok ER (at_ (yp c) sBar) 0 true ∗ dutyTok ER (at_ c sIn0) 0 false ∗ dutyTok ER (at_ c sIn1) 0 false
    ∗ four (fun r => dutyTok ER (at_ c (sXs r)) 0 false) ∗ four (fun r => dutyTok ER (at_ (xp c) (sXr r)) 0 false)
    ∗ four (fun r => dutyTok ER (at_ c (sFs r)) 0 false) ∗ four (fun r => dutyTok ER (at_ (yp c) (sFr r)) 0 false))
/-- The credits for what its partners owe it: two barrier signals and the eight chunks it receives. -/
def awaits (c : Dev nD) : sProp 𝕄 :=
  iprop(cred (tallyAt (at_ c sBar) () 2) ∗ four (fun r => cred (tallyAt (at_ c (sXr r)) () N)) ∗ four (fun r => cred (tallyAt (at_ c (sFr r)) () N)))
/-- Its argument buffers, as launched. -/
def args (c : Dev nD) : sProp 𝕄 := iprop(allPts c main_arg0 (xin m c) ∗ allPts c main_arg1 (win m c))
/-- Its scratch, at any contents. -/
def scratch (c : Dev nD) : sProp 𝕄 :=
  iprop((∃ f, allPts c cc0_scratch0 f) ∗ (∃ f, allPts c cc0_scratch1 f) ∗ (∃ f, allPts c cc0_scratch2 f) ∗ (∃ f, allPts c cc0_scratch3 f)
    ∗ (∃ f, allPts c cc0_scratch4 f) ∗ (∃ f, allPts c cc0_scratch5 f) ∗ (∃ f, allPts c cc0_scratch6 f))
/-- Its semaphores, each at zero. -/
def zeros (c : Dev nD) : sProp 𝕄 :=
  iprop(semVal (at_ c sBar) 0 ∗ semVal (at_ c sIn0) 0 ∗ semVal (at_ c sIn1) 0
    ∗ four (fun r => semVal (at_ c (sXs r)) 0) ∗ four (fun r => semVal (at_ c (sXr r)) 0)
    ∗ four (fun r => semVal (at_ c (sFs r)) 0) ∗ four (fun r => semVal (at_ c (sFr r)) 0))

/-- What a device's body starts from beside the shared records and what it owes. -/
def bodyPre (c : Dev nD) : sProp 𝕄 :=
  iprop(posns c ∗ payToks c ∗ awaits c ∗ args m c ∗ scratch c ∗ (∃ f, allPts c cc0_stg0_0 f))
/-- What it ends with beside what it owes, which is nothing: the staging buffer holds the output. -/
def bodyPost (c : Dev nD) : sProp 𝕄 := iprop(zeros c ∗ args m c ∗ scratch c ∗ allPts c cc0_stg0_0 (OV m c))

section Some
variable (c : Dev nD)
omit [FloatOps F] in
theorem send_some : iprop(∃ f, allPts c cc0_scratch2 f) ⊢ (four (fun r => iprop(∃ f, sendPts c r f)) : sProp 𝕄) := by
  iintro ⟨%f, H⟩
  ihave H := (Entails.of_eq (send_split c f)) $$ H
  iapply (four_some (fun r f => sendPts c r f) f); iexact H
omit [FloatOps F] in
theorem rx_some : iprop(∃ f, allPts c cc0_scratch3 f) ⊢ (four (fun r => iprop(∃ f, rxPts c r fullShare f)) : sProp 𝕄) := by
  iintro ⟨%f, H⟩
  ihave H := (Entails.of_eq (rx_split c f)) $$ H
  iapply (four_some (fun r f => rxPts c r fullShare f) f); iexact H
omit [FloatOps F] in
theorem ry_some : iprop(∃ f, allPts c cc0_scratch4 f) ⊢ (four (fun r => iprop(∃ f, ryPts c r f)) : sProp 𝕄) := by
  iintro ⟨%f, H⟩
  ihave H := (Entails.of_eq (ry_split c f)) $$ H
  iapply (four_some (fun r f => ryPts c r f) f); iexact H
omit [FloatOps F] in
theorem e_some : iprop(∃ f, allPts c cc0_scratch5 f)
    ⊢ (iprop(four (fun r => iprop(∃ f, ePts c (ownb c r) f)) ∗ four (fun r => iprop(∃ f, ePts c (othb c r) f))) : sProp 𝕄) := by
  iintro ⟨%f, H⟩
  ihave H := (Entails.of_eq (e_split c f)) $$ H
  icases H with ⟨H1, H2⟩
  isplitl [H1]
  · iapply (four_some (fun r f => ePts c (ownb c r) f) f); iexact H1
  iapply (four_some (fun r f => ePts c (othb c r) f) f); iexact H2
omit [FloatOps F] in
theorem t_some : iprop(∃ f, allPts c cc0_scratch6 f)
    ⊢ (iprop(four (fun r => iprop(∃ f, tPts c (ownb c r) f)) ∗ four (fun r => iprop(∃ f, tPts c (othb c r) f))) : sProp 𝕄) := by
  iintro ⟨%f, H⟩
  ihave H := (Entails.of_eq (t_split c f)) $$ H
  icases H with ⟨H1, H2⟩
  isplitl [H1]
  · iapply (four_some (fun r f => tPts c (ownb c r) f) f); iexact H1
  iapply (four_some (fun r f => tPts c (othb c r) f) f); iexact H2
omit [FloatOps F] in
theorem o_some : iprop(∃ f, allPts c cc0_stg0_0 f)
    ⊢ (iprop((four (fun r => iprop(∃ f, oPts c (ownb c r) (hown c) f)) ∗ four (fun r => iprop(∃ f, oPts c (ownb c r) (hoth c) f)))
        ∗ four (fun r => iprop(∃ f, oPts c (othb c r) (hown c) f)) ∗ four (fun r => iprop(∃ f, oPts c (othb c r) (hoth c) f))) : sProp 𝕄) := by
  iintro ⟨%f, H⟩
  ihave H := (Entails.of_eq (o_split c f)) $$ H
  icases H with ⟨⟨H1, H2⟩, H3, H4⟩
  isplitl [H1 H2]
  · isplitl [H1]
    · iapply (four_some (fun r f => oPts c (ownb c r) (hown c) f) f); iexact H1
    iapply (four_some (fun r f => oPts c (ownb c r) (hoth c) f) f); iexact H2
  isplitl [H3]
  · iapply (four_some (fun r f => oPts c (othb c r) (hown c) f) f); iexact H3
  iapply (four_some (fun r f => oPts c (othb c r) (hoth c) f) f); iexact H4
end Some

set_option maxHeartbeats 1000000 in
/-- The body, from its start to its end. -/
theorem sound_body (K : Dev nD × Fin 19 → ℕ) (c : Dev nD) (Q : PUnit → sProp 𝕄) :
    iprop(recs m K ∗ bodyPre m c ∗ ow c (O₀ c) ∗ ((bodyPost m c ∗ ow c 0) -∗ Q ⟨⟩)) ⊢ run c (bodySteps bufO) Q := by
  unfold bodyPre posns payToks awaits args scratch bodySteps
  show _ ⊢ wp frame _ _ _ _
  simp only [Prog.lift, Prog.bind_op, Prog.bind_ret, wp_deviceId]
  show _ ⊢ run c _ Q
  iintro ⟨#HR, ⟨⟨Pb, Pi0, Pi1, Pxs, Pxr, Pfs, Pfr⟩, ⟨Db1, Db2, Di0, Di1, Dxs, Dxr, Dfs, Dfr⟩, ⟨Cb, Cxr, Cfr⟩, ⟨A0, A1⟩, ⟨S0, S1, S2, S3, S4, S5, S6⟩, So⟩, HO, Hk⟩
  iapply (run_bind c (start c) _ Q)
  iapply (start_step m K c)
  isplitr; · iexact HR
  isplitl [A1]; · iexact A1
  isplitl [S1]; · iexact S1
  isplitl [Di0]; · iexact Di0
  isplitl [A0]; · iexact A0
  isplitl [S0]; · iexact S0
  isplitl [Di1]; · iexact Di1
  isplitl [HO]; · iexact HO
  isplitl [Db1]; · iexact Db1
  isplitl [Db2]; · iexact Db2
  isplitl [S3]; · iexact S3
  isplitl [S4]; · iexact S4
  isplitl [Cb]; · iexact Cb
  isplitl [Pb]; · iexact Pb
  isplitl [Pi0]; · iexact Pi0
  isplitl [Pi1]; · iexact Pi1
  iintro ⟨HO, Zb, Zi0, Zi1, S3, S4, S1, A1, S0, A0⟩
  ihave S2 := (send_some c) $$ S2
  ihave S3 := (rx_some (xp c)) $$ S3
  ihave S4 := (ry_some (yp c)) $$ S4
  ihave S5 := (e_some c) $$ S5
  ihave S6 := (t_some c) $$ S6
  ihave So := (o_some c) $$ So
  icases S5 with ⟨E1, E2⟩
  icases S6 with ⟨T1, T2⟩
  icases So with ⟨⟨O1, O2⟩, O3, O4⟩
  iapply (own_phase m K c Q _)
  isplitr; · iexact HR
  isplitl [S2 S3 E1 T1 Dxs Dxr]
  · isplitl [S2]; · iexact S2
    isplitl [S3]; · iexact S3
    isplitl [E1]; · iexact E1
    isplitl [T1]; · iexact T1
    isplitl [Dxs]; · iexact Dxs
    iexact Dxr
  isplitl [S0 HO]
  · isplitl [S0]; · iexact S0
    iexact HO
  iintro ⟨⟨E1, T1, Cxs⟩, S0, HO⟩
  iapply (oth_phase m K c Q _)
  isplitr; · iexact HR
  isplitl [E2 T2]
  · isplitl [E2]; · iexact E2
    iexact T2
  isplitl [S0]; · iexact S0
  iintro ⟨⟨E2, T2⟩, S0⟩
  iapply (fin_phase m K c Q _)
  isplitr; · iexact HR
  isplitl [Cxr Pxr S4 Dfs Dfr E1 T1 O1 O2]
  · isplitl [Cxr]; · iexact Cxr
    isplitl [Pxr]; · iexact Pxr
    isplitl [S4]; · iexact S4
    isplitl [Dfs]; · iexact Dfs
    isplitl [Dfr]; · iexact Dfr
    isplitl [E1]; · iexact E1
    isplitl [T1]; · iexact T1
    isplitl [O1]; · iexact O1
    iexact O2
  isplitl [HO]
  · iapply (Entails.of_eq (congrArg (ow (F := F) c) ((congrArg (owY c 0 + ·) (rem_four _)).trans (add_zero _)))); iexact HO
  iintro ⟨⟨Zxr, Rx, Cfs, E1, T1, O1, O2⟩, HO⟩
  ihave HO := (Entails.of_eq (congrArg (ow (F := F) c) (show owY c 4 = 0 from rem_four _))) $$ HO
  iapply (last_phase m K c Q _)
  isplitr; · iexact HR
  isplitl [Cfr Pfr E2 T2 O3 O4]
  · isplitl [Cfr]; · iexact Cfr
    isplitl [Pfr]; · iexact Pfr
    isplitl [E2]; · iexact E2
    isplitl [T2]; · iexact T2
    isplitl [O3]; · iexact O3
    iexact O4
  isplitl [HO]; · iexact HO
  iintro ⟨⟨Zfr, Ry, E2, T2, O3, O4⟩, HO⟩
  iapply (drain_phase m K c Q)
  isplitr; · iexact HR
  isplitl [Cxs Pxs Cfs Pfs Rx]
  · isplitl [Cxs]; · iexact Cxs
    isplitl [Pxs]; · iexact Pxs
    isplitl [Cfs]; · iexact Cfs
    isplitl [Pfs]; · iexact Pfs
    iexact Rx
  isplitl [HO]; · iexact HO
  iintro ⟨⟨Zxs, Zfs, S2, Rx⟩, HO⟩
  iapply Hk
  isplitr [HO]
  · unfold bodyPost zeros args scratch
    isplitl [Zb Zi0 Zi1 Zxs Zxr Zfs Zfr]
    · isplitl [Zb]; · iexact Zb
      isplitl [Zi0]; · iexact Zi0
      isplitl [Zi1]; · iexact Zi1
      isplitl [Zxs]; · iexact Zxs
      isplitl [Zxr]; · iexact Zxr
      isplitl [Zfs]; · iexact Zfs
      iexact Zfr
    isplitl [A0 A1]
    · isplitl [A0]; · iexact A0
      iexact A1
    isplitr [O1 O2 O3 O4]
    · isplitl [S0]; · iexists _; iexact S0
      isplitl [S1]; · iexists _; iexact S1
      isplitl [S2]; · iexists (PV m c); rw [send_split]; iexact S2
      isplitl [Rx]; · iexists (PV m (xp c)); rw [rx_split]; iexact Rx
      isplitl [Ry]; · iexists (PV m (xp (yp c))); rw [ry_split]; iexact Ry
      isplitl [E1 E2]
      · iexists (EV m c); rw [e_split]
        isplitl [E1]; · iexact E1
        iexact E2
      iexists (TV m c); rw [t_split]
      isplitl [T1]; · iexact T1
      iexact T2
    rw [o_split]
    isplitl [O1 O2]
    · isplitl [O1]; · iexact O1
      iexact O2
    isplitl [O3]; · iexact O3
    iexact O4
  iexact HO

end Cert.KernelIdeal.Gen

end
-- ==== Proof.Launch.lean ====
/- The launch: every device's cells are made together, the tokens of the duties are dealt to the devices that pay them,
   and the run of the whole mesh follows from the body's. -/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

set_option maxRecDepth 65536

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## The region's data -/

/-- What device `c`'s body starts from, its scratch aside. -/
def start₀ (c : Dev nD) : sProp 𝕄 := iprop((∃ K, recs m K) ∗ posns c ∗ payToks c ∗ awaits c ∗ args m c)
def Φ₀ (c : Dev nD) : sProp 𝕄 := iprop(start₀ m c ∗ scratch c)
def Φ₁ (c : Dev nD) : sProp 𝕄 := iprop(zeros c ∗ args m c ∗ scratch c)

/-- The one region's data on device `c`: the output window leaves the output in its staging buffer. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => OV m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Owning a whole buffer at a value is holding it at that contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ allPts c b f) := by
  unfold owns; simp only [Memref.view_whole, View.read_whole, View.set_whole]

/-- The staging buffer at a value. -/
abbrev stg (c : Dev nD) (X : S256x8192.Idx → Elt F .f32) : sProp 𝕄 :=
  iprop(∃ f : Buf (Elt F) ((c : Thread nD τ).loc cc0_stg0_0), ⌜f = X⌝ ∗ allPts c cc0_stg0_0 f)

def enter (c : Dev nD) : sProp 𝕄 :=
  iprop(Φ₀ m c ∗ (dats m ρ 0 c).owesAt () t0_0.castSucc ∗ (∃ d, stg c ((dats m ρ 0 c).before (0 : Fin 1) t0_0 d)))
def leave (c : Dev nD) : sProp 𝕄 := iprop(Φ₁ m c ∗ (dats m ρ 0 c).owesAt () t0_0.succ ∗ stg c (OV m c))

/-- The region's obligation on device `c` is the body's run. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show enter m ρ c ⊢ run c (cc0_body hbmX (Memref.isWhole_whole _) hbmW (Memref.isWhole_whole _) bufO (Memref.isWhole_whole _) bufX (Memref.isWhole_whole _)
      bufW (Memref.isWhole_whole _) bufS (Memref.isWhole_whole _) bufRx (Memref.isWhole_whole _) bufRy (Memref.isWhole_whole _) bufE (Memref.isWhole_whole _)
      bufT (Memref.isWhole_whole _) cc0_scratch7 cc0_scratch8 cc0_scratch9 cc0_scratch10 cc0_scratch11) (fun _ => leave m ρ c)
  rw [body_eq bufO (Memref.isWhole_whole _)]
  unfold enter Φ₀ start₀ Dat.owesAt Pipeline.owesWithin
  rw [show (dats m ρ 0 c).owed t0_0.castSucc = O₀ c from rfl]
  iintro ⟨⟨⟨⟨%K, #HR⟩, Hp, Ht, Hc, Ha⟩, Hs⟩, ⟨%W, -, HO⟩, ⟨%d, %g, -, Hg⟩⟩
  iapply (sound_body m K c fun _ => leave m ρ c)
  isplitr; · iexact HR
  isplitl [Hp Ht Hc Ha Hs Hg]
  · unfold bodyPre
    isplitl [Hp]; · iexact Hp
    isplitl [Ht]; · iexact Ht
    isplitl [Hc]; · iexact Hc
    isplitl [Ha]; · iexact Ha
    isplitl [Hs]; · iexact Hs
    iexists g; iexact Hg
  isplitl [HO]; · iexists W; iexact HO
  unfold bodyPost leave Φ₁ Dat.owesAt Pipeline.owesWithin
  rw [show (dats m ρ 0 c).owed t0_0.succ = 0 from rfl]
  iintro ⟨⟨Hz, Ha, Hs, Hg⟩, ⟨%W', HO⟩⟩
  isplitl [Hz Ha Hs]
  · isplitl [Hz]; · iexact Hz
    isplitl [Ha]; · iexact Ha
    iexact Hs
  isplitl [HO]
  · iexists W'
    isplitr; · ipureintro; exact fun _ _ => Or.inl trivial
    iexact HO
  iexists (OV m c)
  isplitr; · (ipureintro; rfl)
  iexact Hg

/-! ## The cells -/

/-- The kernel's own semaphores: all its cells but the barrier's. -/
abbrev osem : Fin 18 → SemLoc sig := fun k => .dma k.succ
theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 19, csem k = csem k' → k = k' := by decide
theorem kcell_injective : Function.Injective kcell := fun ck ck' h =>
  Prod.ext (congrArg (fun g : GSem nD τ sig => g.1.1) h) (csem_injective _ _ (congrArg Prod.snd h))
def allCells : Finset (GSem nD τ sig) := Finset.univ.map ⟨kcell, kcell_injective⟩

/-- The duties of a device's own cells: one each, and the barrier's second. -/
abbrev duty (j : Fin 20) : SemLoc sig × Bool := if h : j.val < 19 then (csem ⟨j.val, h⟩, false) else (sBar, true)
theorem duty_injective : ∀ j j' : Fin 20, duty j = duty j' → j = j' := by decide
abbrev tokOf (cj : Dev nD × Fin 20) : GSem nD τ sig × ℕ × Bool := (at_ cj.1 (duty cj.2).1, 0, (duty cj.2).2)
theorem tokOf_injective : Function.Injective tokOf := fun cj cj' h =>
  Prod.ext (congrArg (fun x : GSem nD τ sig × ℕ × Bool => x.1.1.1) h)
    (duty_injective _ _ (Prod.ext (congrArg (fun x : GSem nD τ sig × ℕ × Bool => x.1.2) h) (congrArg (fun x : GSem nD τ sig × ℕ × Bool => x.2.2) h)))
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

omit [FloatOps F] in
theorem four_cons (Φ : Fin 4 → sProp 𝕄) (R : sProp 𝕄) : iprop(four Φ ∗ R) = iprop(Φ 0 ∗ Φ 1 ∗ Φ 2 ∗ Φ 3 ∗ R) := by
  unfold four
  rw [bigSep_fin4]
  apply BI.Entails.antisymm
  · show iprop((Φ 0 ∗ Φ 1 ∗ Φ 2 ∗ Φ 3) ∗ R) ⊢ _
    iintro ⟨⟨H0, H1, H2, H3⟩, HR⟩
    isplitl [H0]; · iexact H0
    isplitl [H1]; · iexact H1
    isplitl [H2]; · iexact H2
    isplitl [H3]; · iexact H3
    iexact HR
  · show iprop(Φ 0 ∗ Φ 1 ∗ Φ 2 ∗ Φ 3 ∗ R) ⊢ _
    iintro ⟨H0, H1, H2, H3, HR⟩
    isplitr [HR]
    · isplitl [H0]; · iexact H0
      isplitl [H1]; · iexact H1
      isplitl [H2]; · iexact H2
      iexact H3
    iexact HR

omit [FloatOps F] in
/-- A family over a device's nineteen cells, by role. -/
theorem cells_eq (Φ : Fin 19 → sProp 𝕄) : bigSep Finset.univ Φ
    = iprop(Φ 0 ∗ Φ 1 ∗ Φ 2 ∗ four (fun r => Φ (kXs r)) ∗ four (fun r => Φ (kXr r)) ∗ four (fun r => Φ (kFs r)) ∗ four (fun r => Φ (kFr r))) := by
  rw [four_cons, four_cons, four_cons]
  unfold four
  rw [bigSep_fin4, bigSep_univ_eq_bigSepL [0, 1, 2, 3, 4, 5, 6, 7, 8, 9, 10, 11, 12, 13, 14, 15, 16, 17, 18] (by decide) (by decide) Φ]
  rfl

omit [FloatOps F] in
/-- A family over its own eighteen semaphores, by role. -/
theorem own_eq (Φ : SemLoc sig → sProp 𝕄) : (bigSep Finset.univ fun k : Fin 18 => Φ (osem k))
    = iprop(Φ sIn0 ∗ Φ sIn1 ∗ four (fun r => Φ (sXs r)) ∗ four (fun r => Φ (sXr r)) ∗ four (fun r => Φ (sFs r)) ∗ four (fun r => Φ (sFr r))) := by
  rw [four_cons, four_cons, four_cons]
  unfold four
  rw [bigSep_fin4, bigSep_univ_eq_bigSepL [0, 1, 2, 3, 4, 5, 6, 7, 8, 9, 10, 11, 12, 13, 14, 15, 16, 17] (by decide) (by decide) (fun k : Fin 18 => Φ (osem k))]
  rfl

omit [FloatOps F] in
/-- A family over its cells' twenty duties, by role. -/
theorem duties_eq (Φ : SemLoc sig × Bool → sProp 𝕄) : (bigSep Finset.univ fun j : Fin 20 => Φ (duty j))
    = iprop(Φ (sBar, false) ∗ Φ (sBar, true) ∗ Φ (sIn0, false) ∗ Φ (sIn1, false) ∗ four (fun r => Φ (sXs r, false)) ∗ four (fun r => Φ (sXr r, false))
        ∗ four (fun r => Φ (sFs r, false)) ∗ four (fun r => Φ (sFr r, false))) := by
  rw [four_cons, four_cons, four_cons]
  unfold four
  rw [bigSep_fin4, bigSep_univ_eq_bigSepL [0, 19, 1, 2, 3, 4, 5, 6, 7, 8, 9, 10, 11, 12, 13, 14, 15, 16, 17, 18] (by decide) (by decide) (fun j : Fin 20 => Φ (duty j))]
  rfl

/-- The duty tokens of device `c`'s own cells. -/
def toks (c : Dev nD) : sProp 𝕄 := bigSep Finset.univ fun j : Fin 20 => dutyTok ER (at_ c (duty j).1) 0 (duty j).2

/-- What the launch deals device `c`. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ toks c)

/-- The records of every device's cells, without the levels. -/
def marks (K : Dev nD × Fin 19 → ℕ) : sProp 𝕄 :=
  iprop((bigSep Finset.univ fun ck : Dev nD × Fin 19 => cellInv ER (Rd m) (K ck) (kcell ck))
    ∗ (bigSep Finset.univ fun ck : Dev nD × Fin 19 => reached ER (kcell ck) 0))
instance marks_persistent (K : Dev nD × Fin 19 → ℕ) : BI.Persistent (marks m K) := by unfold marks; infer_instance

/-- What the common step makes of it: the records, device `c`'s positions and the tokens it pays. -/
def G' (c : Dev nD) : sProp 𝕄 := iprop(∃ K, marks m K ∗ posns c ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (at_ c sIn0) 0 ∗ semVal (at_ c sIn1) 0 ∗ four (fun r => semVal (at_ c (sXs r)) 0) ∗ four (fun r => semVal (at_ c (sXr r)) 0)
        ∗ four (fun r => semVal (at_ c (sFs r)) 0) ∗ four (fun r => semVal (at_ c (sFr r)) 0)) :=
  own_eq fun sm => semVal (at_ c sm) 0
omit [FloatOps F] in
theorem unscopedSems0_eq (c : Dev nD) : (unscopedSems0 c : sProp 𝕄) = semVal (at_ c sBar) 0 := by
  unfold unscopedSems0; rw [bigSep_eq_bigSepL_of_eq [sBar] (by decide) (by decide)]; rfl

omit [FloatOps F] in
theorem roles_zero (c : Dev nD) : (zeros c : sProp 𝕄) = bigSep Finset.univ fun k : Fin 19 => semVal (kcell (c, k)) 0 := by
  rw [cells_eq]
  unfold zeros four
  simp only [bigSep_fin4]
  rfl
omit [FloatOps F] in
theorem roles_pos (c : Dev nD) : (posns c : sProp 𝕄) = bigSep Finset.univ fun k : Fin 19 => atPos ER (kcell (c, k)) 0 ∅ 0 := by
  rw [cells_eq]
  unfold posns four
  simp only [bigSep_fin4]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, ← roles_zero]
  unfold zeros
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def xEquiv : Dev nD ≃ Dev nD := ⟨xp, xp, xp_xp, xp_xp⟩
def yEquiv : Dev nD ≃ Dev nD := ⟨yp, yp, yp_yp, yp_yp⟩

omit [FloatOps F] in
/-- The tokens dealt to those who pay them: each device's barrier token and receive tokens of a direction go to its
    partner there. -/
theorem toks_around : (bigSep Finset.univ fun c : Dev nD => (toks c : sProp 𝕄)) ⊢ bigSep Finset.univ fun c : Dev nD => payToks c := by
  unfold toks
  rw [bigSep_congr (s := Finset.univ) fun (c : Dev nD) _ => (duties_eq fun x => (dutyTok ER (at_ c x.1) 0 x.2 : sProp 𝕄))]
  unfold payToks
  simp only [bigSep_sep']
  rw [bigSep_univ_equiv xEquiv (fun c : Dev nD => (dutyTok ER (at_ c sBar) 0 false : sProp 𝕄)),
    bigSep_univ_equiv yEquiv (fun c : Dev nD => (dutyTok ER (at_ c sBar) 0 true : sProp 𝕄)),
    bigSep_univ_equiv xEquiv (fun c : Dev nD => (four (fun r => dutyTok ER (at_ c (sXr r)) 0 false) : sProp 𝕄)),
    bigSep_univ_equiv yEquiv (fun c : Dev nD => (four (fun r => dutyTok ER (at_ c (sFr r)) 0 false) : sProp 𝕄))]
  exact BI.Entails.refl _

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (with_records (R := marks m K) (Φ := fun c => iprop(posns c ∗ payToks c)) fun c _ => (by
    unfold G'
    iintro ⟨HM, HP⟩
    iexists K
    isplitl [HM]; · iexact HM
    iexact HP : iprop(marks m K ∗ posns c ∗ payToks c) ⊢ G' m c))
  isplitr
  · unfold marks; isplitl; · iexact HI
    iexact HR
  · iapply (Entails.of_eq (bigSep_sep' Finset.univ (fun c : Dev nD => (posns c : sProp 𝕄)) payToks).symm)
    isplitl [Hat]
    · iapply (Entails.of_eq (bigSep_congr (s := Finset.univ) fun (c : Dev nD) _ => roles_pos (F := F) c).symm); iexact Hat
    iexact Htk

/-- The common step: the semaphores of every device at once become its cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rem_zero (t : Fin 4 → CellTallies nD τ sig Unit) : rem t 0 = ∑ r, t r := by
  unfold rem
  rw [Finset.filter_true_of_mem fun r _ => Nat.zero_le _]

theorem O₀_eq : O₀ = fun d => (((∑ r, tallyAt (at_ (yp d) (sFr r)) () N) + ∑ r, tallyAt (at_ (xp d) (sXr r)) () N)
    + tallyAt (at_ (yp d) sBar) () 1) + tallyAt (at_ (xp d) sBar) () 1 := by
  funext d
  unfold O₀ O₁ owY owX
  rw [rem_zero, rem_zero]

omit [FloatOps F] in
/-- What partners owe a device's four cells of one direction is the credit for four chunks. -/
theorem four_credit (s : Fin 4 → SemLoc sig) (p : Dev nD → Dev nD) (hp : ∀ c, p (p c) = c) (c : Dev nD) :
    (bigSep Finset.univ fun r : Fin 4 => (Pipeline.launchCred (fun d => tallyAt (at_ (p d) (s r)) () N) c : sProp 𝕄))
      ⊢ four (fun r => cred (tallyAt (at_ c (s r)) () N)) :=
  bigSep_mono fun r _ => Pipeline.launchCred_tallyAt (s r) p p hp hp () N c

omit [FloatOps F] in
/-- What the partners owe device `c` at launch is what it awaits. -/
theorem creds (c : Dev nD) : (Pipeline.launchCred O₀ c : sProp 𝕄) ⊢ awaits c := by
  rw [O₀_eq, Pipeline.launchCred_add, Pipeline.launchCred_add, Pipeline.launchCred_add,
    Pipeline.launchCred_sum Finset.univ (fun r d => tallyAt (at_ (yp d) (sFr r)) () N),
    Pipeline.launchCred_sum Finset.univ (fun r d => tallyAt (at_ (xp d) (sXr r)) () N)]
  unfold awaits
  iintro ⟨⟨⟨Hy, Hx⟩, Hb1⟩, Hb2⟩
  ihave Hb1 := (Pipeline.launchCred_tallyAt sBar yp yp yp_yp yp_yp () 1 c) $$ Hb1
  ihave Hb2 := (Pipeline.launchCred_tallyAt sBar xp xp xp_xp xp_xp () 1 c) $$ Hb2
  isplitl [Hb1 Hb2]
  · rw [show (tallyAt (at_ c sBar) () 2 : CellTallies nD τ sig Unit) = tallyAt (at_ c sBar) () 1 + tallyAt (at_ c sBar) () 1 from (tallyAt_add _ _ 1 1).symm]
    iapply (cred_add _ _).2
    isplitl [Hb1] <;> iassumption
  isplitl [Hx]
  · iapply (four_credit (F := F) (sXr) xp xp_xp c); iexact Hx
  iapply (four_credit (F := F) (sFr) yp yp_yp c); iexact Hy

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start₀ m c ∗ emp) := by
  rw [Pipeline.unscopedRestP_none, unscopedRest0_eq]
  unfold G' marks start₀ args
  iintro ⟨⟨HA0, HA1⟩, Hlev, Hcr, -, ⟨%K, ⟨HI, HR⟩, Hp, Ht⟩⟩
  ihave Hc := (creds (F := F) c) $$ Hcr
  imodintro
  isplitl
  · isplitl [HI HR Hlev]
    · iexists K
      unfold recs
      isplitl [HI]; · iexact HI
      isplitl [HR]; · iexact HR
      iexact Hlev
    isplitl [Hp]; · iexact Hp
    isplitl [Ht]; · iexact Ht
    isplitl [Hc]; · iexact Hc
    isplitl [HA0]; · iexact HA0
    iexact HA1
  · iempintro

theorem phi0_intro (c : Dev nD) :
    iprop(start₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros scratch
  iintro ⟨⟨HB, HZ⟩, HA, Hr⟩
  isplitl [HB HA]
  · isplitl [HB]; · iexact HB
    iexact HA
  isplitl [HZ]; · iexact HZ
  iexact Hr

theorem role_stg : ∀ (w : Fin cfg0.W) (s : Fin (cfg0.win w).nbuf), levelOf (role (.dma ((cfg0.win w).sem s))) = 0 := by decide
theorem waits (c : Dev nD) : (levAts L lv : sProp 𝕄) ⊢ Pipeline.cellsWaits cfgs (dats m ρ) () 0 c :=
  Pipeline.cellsWaits_intro cfgs (dats m ρ) () 0 c fun w s t =>
    mayWait c rfl (by
      rw [role_stg w s]
      rcases t with ⟨_ | _, ht⟩
      · exact above_O₀ c
      · exact above_zero _)

omit [FloatOps F] in
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  exact h.trans (sep_mono_left (BI.pure_mono fun h => h () (Finset.mem_singleton_self _)))

/-- What is read of device `c` at the end beside its output. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_end (c : Dev nD) (s' : Phys nD τ sig (Elt F)) :
    iprop((unscopedSems0 c ∗ args m c) ∗ emp ∗ SI s') ⊢ |={Set.univ}=> iprop(⌜QY m c s'.mem⌝ ∗ SI s' : sProp 𝕄) := by
  unfold args
  iintro ⟨⟨HU, HA0, HA1⟩, -, HSI⟩
  ihave H := (read_one (F := F) _ _ s') $$ [HA0 HSI]
  · isplitl [HA0]; · iexact HA0
    iexact HSI
  icases H with ⟨%h0, HSI⟩
  ihave H := (read_one (F := F) _ _ s') $$ [HA1 HSI]
  · isplitl [HA1]; · iexact HA1
    iexact HSI
  icases H with ⟨%h1, HSI⟩
  imod (Pipeline.unscopedSems0_read (X := unscopedSems0 c) (c := c) fupd_intro s') $$ [HU HSI] with ⟨%hu, HSI⟩
  · isplitl [HU] <;> iassumption
  imodintro
  isplitr; · ipureintro; exact ⟨hu, h0, h1⟩
  iexact HSI

/-- The result buffer's block is the whole buffer, and the run leaves the output in it. -/
theorem out_eq (c : Dev nD) : (dats m ρ 0 c).arrAt (0 : Fin 1) cfg0.N = OV m c := by
  rw [show cfg0.N = t0_0.val + 1 from rfl, (dats m ρ 0 c).arrAt_succ (0 : Fin 1) t0_0]
  rw [flush0_0 t0_0, if_pos rfl]
  have hz : (fun a => (win0_0.index t0_0) a * main_v1.ty.shape.size a) = fun _ => 0 := funext fun a => by fin_cases a <;> decide
  exact Memref.write_access_unit_zero_univ (Elt F) main_v1 hz (fun a => by fin_cases a <;> decide) _ _

/-- Every device's final state: its output, its arguments as launched. -/
def Final (r : PUnit × MemSt nD τ sig (Elt F)) : Prop := ∀ c : Dev nD,
  r.2.mem ((c : Thread nD τ).loc main_v1) = OV m c
    ∧ r.2.mem ((c : Thread nD τ).loc main_arg0) = m ((c : Thread nD τ).loc main_arg0)
    ∧ r.2.mem ((c : Thread nD τ).loc main_arg1) = m ((c : Thread nD τ).loc main_arg1)

/-- For any float values, from any memory with its counters at zero, the whole mesh runs to an end in which every device
    holds its output, its arguments are unchanged, and every counter is zero again. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start₀ m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c => ⟨((h c).1 (0 : Fin 1)).trans (out_eq m ρ c), (h c).2.2.2.1, (h c).2.2.2.2⟩, sem_eq_zero hs fun c => (h c).2.2.1⟩)

end Cert.KernelIdeal.Gen

end
-- ==== Proof.Frames.lean ====
/- The frames: every program runs to an end with its arguments unchanged and every counter at zero. The kernel's two are
   the mesh's run with its output dropped. -/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 65536

noncomputable section

namespace Cert.Proof

open Idealize.ShloMosaic Idealize.SL.Sem

/-- The side conditions of the precondition on the kernel's arguments, and on the reference's. -/
instance preK : Cert.Pre_finite_KernelIdeal.Facts where
  bcast_S_S256x512 := by decide
  reducesTo_S256x512_S_d0_1 := by decide
  h_S_ := by decide
  bcast_S_S512x4096 := by decide
  reducesTo_S512x4096_S_d0_1 := by decide
instance preR : Cert.Pre_finite_ReferenceIdeal.Facts where
  bcast_S_S256x512 := by decide
  reducesTo_S256x512_S_d0_1 := by decide
  h_S_ := by decide
  bcast_S_S512x8192 := by decide
  reducesTo_S512x8192_S_d0_1 := by decide

/-- The mesh's run at any float values, its output dropped. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => (h.1 c).2, h.2⟩) (KernelIdeal.Gen.run_main m ρ)

/-- The two printed programs call the same bodies. -/
theorem defs₀_eq : Kernel.defs₀ (F := Bits) = KernelIdeal.defs₀ (F := Bits) :=
  congrArg Defs.onTc (funext fun ℓ => funext fun x => match ℓ, x with
    | ⟨0, _⟩, (_, _) => rfl
    | ⟨_ + 1, h⟩, _ => absurd h (Nat.not_lt.2 (Nat.le_add_left _ _)))
theorem defs_eq : Kernel.defs (F := Bits) = KernelIdeal.defs (F := Bits) := congrArg (Pipeline.defs KernelIdeal.pcfgs) defs₀_eq

/-- The kernel as printed runs to an end with its arguments unchanged and its counters at zero. -/
theorem frame_kernel : Cert.quiescent_Kernel := fun m ρ _ =>
  (congrArg (fun D => θ_run D (onTc (τ := KernelIdeal.τ) (KernelIdeal.main (F := Bits))) ⟨m, fun _ => 0, ρ⟩ _) defs_eq).mpr (frame_any (F := Bits) m ρ)
/-- The same of the kernel read over the extended reals. -/
theorem frame_ideal : Cert.quiescent_KernelIdeal := fun m ρ _ => frame_any (F := Ideal) m ρ

/-- The reference runs to an end with its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Payloads.lean ====
/- WHAT THE KERNEL'S PAYLOADS ARE ON EXTENDED REALS, element by element. -/
module

public import proofs.«01_k».proof.Proof.Values
public import Idealize.ShloMosaic.Lib.Pointwise
public import Idealize.ShloMosaic.Lib.MatmulPlain

@[expose] public section

set_option maxRecDepth 65536

noncomputable section

namespace Cert.KernelIdeal.Gen

open Idealize.ShloMosaic Idealize.ShloMosaic.TcCoe
open scoped BigOperators

variable (w : Vec Ideal S512x4096 .f32) (x : Vec Ideal S32x512 .f32)

/-- The exponentials of one block of the product. -/
theorem pay7_apply (p : Fin 32) (q : Fin 4096) :
    k0_pay7 (k0_pay1 w) x (ix2 p q) = Ideal.exp (∑ k : Fin 512, x (ix2 p k) * w (ix2 k q)) := by
  have h := Ideal.matmul_plain_apply (M := 32) (K := 512) (N := 4096) (φ₁ := .bf16) (φ₂ := .bf16) none x w (constant S32x4096 .f32 0x00000000#32) p q
  have h0 : (constant S32x4096 .f32 0x00000000#32 : FVec Ideal S32x4096 .f32) (ValueIdx.ix2 p q) = 0 := Ideal.ofBits_zero_f32
  rw [h0, zero_add] at h
  exact congrArg Ideal.exp h

/-- The row sums of those exponentials. -/
theorem pay8_apply (p : Fin 32) (z : Fin 1) :
    k0_pay8 (k0_pay1 w) x (ix2 p z) = ∑ q : Fin 4096, Ideal.exp (∑ k : Fin 512, x (ix2 p k) * w (ix2 k q)) := by
  have h : k0_pay8 (k0_pay1 w) x (ix2 p z) = ∑ q : Fin 4096, k0_pay7 (k0_pay1 w) x (ix2 p q) := by
    unfold k0_pay8
    generalize k0_pay7 (k0_pay1 w) x = e
    pointwise
  exact h.trans (Finset.sum_congr rfl fun q _ => pay7_apply w x p q)

/-- What is sent holds the exponentials in its first columns … -/
theorem pay9_left (p : Fin 32) (q : Fin 4224) (hq : q.val < 4096) :
    k0_pay35 (k0_pay9 (k0_pay1 w) x) (ix2 p q) = Ideal.exp (∑ k : Fin 512, x (ix2 p k) * w (ix2 k ⟨q.val, hq⟩)) := by
  refine Eq.trans ?_ (pay7_apply w x p ⟨q.val, hq⟩)
  unfold k0_pay35 k0_pay9
  generalize k0_pay7 (k0_pay1 w) x = e
  generalize k0_pay8 (k0_pay1 w) x = s
  pointwise [dif_pos hq]
  done

/-- … and the row sums in the columns after them. -/
theorem pay9_right (p : Fin 32) (q : Fin 4224) (hq : ¬ q.val < 4096) :
    k0_pay35 (k0_pay9 (k0_pay1 w) x) (ix2 p q) = ∑ q : Fin 4096, Ideal.exp (∑ k : Fin 512, x (ix2 p k) * w (ix2 k q)) := by
  refine Eq.trans ?_ (pay8_apply w x p 0)
  unfold k0_pay35 k0_pay9
  generalize k0_pay7 (k0_pay1 w) x = e
  generalize k0_pay8 (k0_pay1 w) x = s
  pointwise [dif_neg hq]
  done

/-- The own half of a block: the own exponentials times the reciprocal of the two sums. -/
theorem pay37_apply (P : Vec Ideal S1x32x4224 .bf16) (s : Vec Ideal S32x1 .f32) (e : Vec Ideal S32x4096 .f32) (p : Fin 32) (q : Fin 4096) :
    k0_pay37 P s e (ix2 p q) = e (ix2 p q) * Ideal.div 1 (s (ix2 p 0) + k0_pay35 P (ix2 p ⟨4096, by decide⟩)) := by
  unfold k0_pay37 k0_pay36
  generalize k0_pay35 P = u
  pointwise
  done

/-- The other half of a block: the received exponentials times the same reciprocal. -/
theorem pay38_apply (P : Vec Ideal S1x32x4224 .bf16) (s : Vec Ideal S32x1 .f32) (p : Fin 32) (q : Fin 4096) :
    k0_pay38 P s (ix2 p q) = k0_pay35 P (ix2 p ⟨q.val, by omega⟩) * Ideal.div 1 (s (ix2 p 0) + k0_pay35 P (ix2 p ⟨4096, by decide⟩)) := by
  unfold k0_pay38 k0_pay36
  generalize k0_pay35 P = u
  pointwise
  done

end Cert.KernelIdeal.Gen

end
-- ==== Proof.Softmax.lean ====
/- THE MATHEMATICS: an exponential over the sum of all exponentials is unchanged by subtracting a real number from every
   exponent, and the sum splits into two halves. -/
module

public import Idealize.ShloMosaic.Lib.Pointwise

@[expose] public section

noncomputable section

namespace Cert.Softmax

open Idealize.ShloMosaic
open scoped BigOperators

/-- A finite sum of real numbers, as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real whose absolute value is below infinity is a real number. -/
theorem real_of_abs {x : EReal} (h : max x (-x) < ⊤) : ∃ r : ℝ, x = (r : EReal) := by
  induction x with
  | bot => simp at h
  | top => simp at h
  | coe r => exact ⟨r, rfl⟩

/-- A sum of products of real numbers is a real number. -/
theorem real_dot {n : ℕ} {f g : Fin n → EReal} (hf : ∀ k, ∃ r : ℝ, f k = r) (hg : ∀ k, ∃ r : ℝ, g k = r) :
    ∃ r : ℝ, ∑ k, f k * g k = (r : EReal) := by
  choose a ha using hf
  choose b hb using hg
  refine ⟨∑ k, a k * b k, ?_⟩
  rw [← coe_sum]
  exact Finset.sum_congr rfl fun k _ => by rw [ha, hb, EReal.coe_mul]

/-- The largest of finitely many real numbers, at least one of them, is a real number. -/
theorem real_max {n : ℕ} (f : Fin (n + 1) → ℝ) : ∃ r : ℝ, (Finset.univ : Finset (Fin (n + 1))).fold max ⊥ (fun k => (f k : EReal)) = (r : EReal) := by
  have h1 : (Finset.univ : Finset (Fin (n + 1))).fold max ⊥ (fun k => (f k : EReal)) < ⊤ :=
    (Finset.fold_max_lt _).2 ⟨bot_lt_top, fun k _ => EReal.coe_lt_top _⟩
  have h2 : ⊥ < (Finset.univ : Finset (Fin (n + 1))).fold max ⊥ (fun k => (f k : EReal)) :=
    (Finset.lt_fold_max _).2 (Or.inr ⟨0, Finset.mem_univ _, EReal.bot_lt_coe _⟩)
  exact ⟨_, (EReal.coe_toReal h1.ne h2.ne').symm⟩

/-- The quotient after subtracting `M` is the exponential times the reciprocal of the whole sum. -/
theorem shift {n : ℕ} (l : Fin (n + 1) → ℝ) (M : ℝ) (j : Fin (n + 1)) :
    Ideal.div (Ideal.exp ((l j : EReal) - (M : EReal))) (∑ k, Ideal.exp ((l k : EReal) - (M : EReal)))
      = Ideal.exp (l j : EReal) * Ideal.div 1 (∑ k, Ideal.exp (l k : EReal)) := by
  have e1 : ∀ k, Ideal.exp ((l k : EReal) - (M : EReal)) = ((Real.exp (l k - M) : ℝ) : EReal) := fun k => by
    rw [← EReal.coe_sub, Ideal.exp_coe]
  have e2 : ∀ k, Ideal.exp (l k : EReal) = ((Real.exp (l k) : ℝ) : EReal) := fun k => Ideal.exp_coe _
  have p1 : 0 < ∑ k, Real.exp (l k - M) := Finset.sum_pos (fun _ _ => Real.exp_pos _) ⟨j, Finset.mem_univ _⟩
  have p2 : 0 < ∑ k, Real.exp (l k) := Finset.sum_pos (fun _ _ => Real.exp_pos _) ⟨j, Finset.mem_univ _⟩
  have hs : ∑ k, Real.exp (l k - M) = (∑ k, Real.exp (l k)) * (Real.exp M)⁻¹ := by
    rw [Finset.sum_mul]
    exact Finset.sum_congr rfl fun k _ => by rw [Real.exp_sub, div_eq_mul_inv]
  simp only [e1, e2, coe_sum]
  rw [Ideal.div_coe p1.ne', Ideal.div_coe p2.ne', one_mul, ← EReal.coe_mul, ← EReal.coe_mul, EReal.coe_eq_coe_iff, hs, Real.exp_sub]
  have := Real.exp_ne_zero M
  have := p2.ne'
  field_simp

/-- The sum of the exponentials over all columns, half by half in either order. -/
theorem halves (f : Fin 8192 → EReal) (a b : Fin 2) (hab : a ≠ b) :
    ∑ k, f k = ∑ q : Fin 4096, f ⟨4096 * a.val + q.val, by omega⟩ + ∑ q : Fin 4096, f ⟨4096 * b.val + q.val, by omega⟩ := by
  have h := Fin.sum_univ_two_halves 4096 4096 (by decide) f
  match a, b with
  | 0, 0 => exact absurd rfl hab
  | 1, 1 => exact absurd rfl hab
  | 0, 1 =>
    rw [h]
    exact congrArg₂ (· + ·) (Finset.sum_congr rfl fun q _ => congrArg f (Fin.ext (by simp))) (Finset.sum_congr rfl fun q _ => congrArg f (Fin.ext (by simp)))
  | 1, 0 =>
    rw [h, add_comm]
    exact congrArg₂ (· + ·) (Finset.sum_congr rfl fun q _ => congrArg f (Fin.ext (by simp))) (Finset.sum_congr rfl fun q _ => congrArg f (Fin.ext (by simp)))

end Cert.Softmax

end
-- ==== Proof.Reading.lean ====
/- THE REFERENCE ON EXTENDED REALS, element by element, and what the precondition says of the arguments. -/
module

public import proofs.«01_k».proof.Defs
public import proofs.«01_k».proof.Proof.Gen.ReferenceIdeal.Run
public import proofs.«01_k».proof.Proof.Softmax
public import Idealize.ShloMosaic.Lib.Pointwise
public import Idealize.ShloMosaic.Lib.ReduceAll

@[expose] public section

set_option maxRecDepth 65536

noncomputable section

namespace Cert.Reading

open Idealize.ShloMosaic Idealize.ShloMosaic.TcCoe
open scoped BigOperators

/-- The patterns of the two infinities. -/
theorem neg_inf : Ideal.ofBits .f32 0xFF800000#32 = ⊥ := by simp [Ideal.ofBits, Ideal.ieee]
theorem pos_inf : Ideal.ofBits .f32 0x7F800000#32 = ⊤ := by simp [Ideal.ofBits, Ideal.ieee]

section
open Cert.ReferenceIdeal Cert.ReferenceIdeal.Gen

/-- The reference's logits. -/
def logits (x : FVec Ideal S256x512 .f32) (w : FVec Ideal S512x8192 .f32) : FVec Ideal S256x8192 .f32 :=
  Host.dotGeneral dot_S256x512_S512x8192_S256x8192_1_0_0_1_n_n none x w
/-- The reference's softmax of the logits `d`. -/
def soft (d : FVec Ideal S256x8192 .f32) : FVec Ideal S256x8192 .f32 :=
  Host.divf (Host.exp (subf d (broadcastInDim S256x8192 ![0, 1] bcast_S256x1_S256x8192_0_1 (broadcastInDim S256x1 ![0] bcast_S256_S256x1_0 (Host.reduce FloatOps.maximumf d (constant S_ .f32 0xFF800000#32) reducesTo_S256x8192_S256_d1 h_S_)))))
    (broadcastInDim S256x8192 ![0, 1] bcast_S256x1_S256x8192_0_1 (broadcastInDim S256x1 ![0] bcast_S256_S256x1_0 (Host.reduceAdd (Host.exp (subf d (broadcastInDim S256x8192 ![0, 1] bcast_S256x1_S256x8192_0_1 (broadcastInDim S256x1 ![0] bcast_S256_S256x1_0 (Host.reduce FloatOps.maximumf d (constant S_ .f32 0xFF800000#32) reducesTo_S256x8192_S256_d1 h_S_))))) (constant S_ .f32 0x00000000#32) reducesTo_S256x8192_S256_d1 h_S_)))

/-- A logit is the sum of the products along its row and its column. -/
theorem logits_apply (x : FVec Ideal S256x512 .f32) (w : FVec Ideal S512x8192 .f32) (i : Fin 256) (j : Fin 8192) :
    logits x w (ix2 i j) = ∑ k : Fin 512, x (ix2 i k) * w (ix2 k j) := by
  pointwise [logits]
  done

/-- The softmax, element by element. -/
theorem soft_apply (d : FVec Ideal S256x8192 .f32) (i : Fin 256) (j : Fin 8192) :
    soft d (ix2 i j) = Ideal.div (Ideal.exp (d (ix2 i j) - (Finset.univ : Finset (Fin 8192)).fold max ⊥ (fun k => d (ix2 i k))))
      (∑ k : Fin 8192, Ideal.exp (d (ix2 i k) - (Finset.univ : Finset (Fin 8192)).fold max ⊥ (fun k => d (ix2 i k)))) := by
  pointwise [soft, neg_inf]
  done

end

/-- A comparison that came out one is true. -/
theorem of_ofBool {p : Prop} [Decidable p] (h : BitVec.ofBool (decide p) = 1#1) : p := by
  by_contra hp
  rw [decide_eq_false hp] at h
  exact absurd h (by decide)

section
open Cert.Pre_finite_KernelIdeal
variable [Facts]
open Facts

instance : Subsingleton S_.Idx := ⟨fun a b => funext fun i => i.elim0⟩

/-- Where the precondition holds every element of both arguments is a real number. -/
theorem fn_real (x : FVec Ideal S256x512 .f32) (w : FVec Ideal S512x4096 .f32) (h : fn (F := Ideal) x w = fun _ => 1#1) :
    (∀ i, ∃ r : ℝ, x i = r) ∧ (∀ i, ∃ r : ℝ, w i = r) := by
  have h0 := congrFun h (fun a => a.elim0)
  obtain ⟨hx, hw⟩ := IntOp.andi_eq_one.1 h0
  refine ⟨fun i => ?_, fun i => ?_⟩
  · have e := Host.reduce_andi_all _ _ _ _ _ hx i
    pointwise [pos_inf] at e
    exact Cert.Softmax.real_of_abs (of_ofBool e)
  · have e := Host.reduce_andi_all _ _ _ _ _ hw i
    pointwise [pos_inf] at e
    exact Cert.Softmax.real_of_abs (of_ofBool e)

end

end Cert.Reading

end
-- ==== Proof.Result.lean ====
/- THE KERNEL'S RESULT IS THE REFERENCE'S: on every device, element by element. -/
module

public import proofs.«01_k».proof.Proof.Frames
public import proofs.«01_k».proof.Proof.Payloads
public import proofs.«01_k».proof.Proof.Reading
public import Idealize.ShloMosaic.Lib.Layout

@[expose] public section

set_option maxRecDepth 65536

noncomputable section

namespace Cert.KernelIdeal.Gen

open Idealize.ShloMosaic Idealize.ShloMosaic.TcCoe Idealize.SL.Sem
open scoped BigOperators

variable (m : (ℓ : Loc nD τ sig) → Buf (Elt Ideal) ℓ)
variable (X : FVec Ideal ReferenceIdeal.S256x512 .f32) (W : FVec Ideal ReferenceIdeal.S512x8192 .f32)

/-- The arguments as the devices hold them: `X` whole, and of `W` the half of the columns that is the device's. -/
def Held : Prop := (∀ (c : Dev nD) (i : Fin 256) (k : Fin 512), xin m c (ix2 i k) = X (ix2 i k))
  ∧ ∀ (c : Dev nD) (k : Fin 512) (q : Fin 4096), win m c (ix2 k q) = W (ix2 k ⟨4096 * (hown c).val + q.val, by have := (hown c).isLt; omega⟩)

/-- The exponential of a logit. -/
def ex (i : Fin 256) (j : Fin 8192) : EReal := Ideal.exp (∑ k : Fin 512, X (ix2 i k) * W (ix2 k j))

/-- Row `p` of chunk `b`. -/
def rowOf (b : Fin 8) (p : Fin 32) : Fin 256 := ⟨32 * b.val + p.val, by omega⟩
/-- Column `q` of half `h`. -/
def colOf (h : Fin 2) (q : Fin 4096) : Fin 8192 := ⟨4096 * h.val + q.val, by omega⟩

variable {m X W}

theorem xch_apply (H : Held m X W) (c : Dev nD) (b : Fin 8) (p : Fin 32) (k : Fin 512) : xch m c b (ix2 p k) = X (ix2 (rowOf b p) k) := by
  refine Eq.trans (congrArg (xin m c) ?_) (H.1 c (rowOf b p) k)
  funext a; apply Fin.ext
  match a with
  | ⟨0, _⟩ => show 32 * b.val + 1 * p.val = 32 * b.val + p.val; omega
  | ⟨1, _⟩ => show 0 + 1 * k.val = k.val; omega

/-- The sum a chunk's product takes at row `p` and column `q` on device `c` is that logit. -/
theorem dot_apply (H : Held m X W) (c : Dev nD) (b : Fin 8) (p : Fin 32) (q : Fin 4096) :
    Ideal.exp (∑ k : Fin 512, xch m c b (ix2 p k) * win m c (ix2 k q)) = ex X W (rowOf b p) (colOf (hown c) q) :=
  congrArg Ideal.exp (Finset.sum_congr rfl fun k _ => congrArg₂ (· * ·) (xch_apply H c b p k) (H.2 c k q))

theorem ech_apply (H : Held m X W) (c : Dev nD) (b : Fin 8) (p : Fin 32) (q : Fin 4096) :
    ech m c b (ix2 p q) = ex X W (rowOf b p) (colOf (hown c) q) := (pay7_apply _ _ p q).trans (dot_apply H c b p q)
theorem sch_apply (H : Held m X W) (c : Dev nD) (b : Fin 8) (p : Fin 32) (z : Fin 1) :
    sch m c b (ix2 p z) = ∑ q : Fin 4096, ex X W (rowOf b p) (colOf (hown c) q) :=
  (pay8_apply _ _ p z).trans (Finset.sum_congr rfl fun q _ => dot_apply H c b p q)
theorem pch_left (H : Held m X W) (c : Dev nD) (b : Fin 8) (p : Fin 32) (q : Fin 4224) (hq : q.val < 4096) :
    k0_pay35 (pch m c b) (ix2 p q) = ex X W (rowOf b p) (colOf (hown c) ⟨q.val, hq⟩) :=
  (pay9_left _ _ p q hq).trans (dot_apply H c b p _)
theorem pch_right (H : Held m X W) (c : Dev nD) (b : Fin 8) (p : Fin 32) (q : Fin 4224) (hq : ¬ q.val < 4096) :
    k0_pay35 (pch m c b) (ix2 p q) = ∑ q : Fin 4096, ex X W (rowOf b p) (colOf (hown c) q) :=
  (pay9_right _ _ p q hq).trans (Finset.sum_congr rfl fun q _ => dot_apply H c b p q)

/-- The device a chunk's remote part comes from holds the other half of the columns. -/
theorem hown_src : ∀ (c : Dev nD) (b : Fin 8), hown (src c b) = hoth c := by decide
theorem half_cases : ∀ (c : Dev nD) (h : Fin 2), h ≠ hown c → h = hoth c := by decide

/-- One half of one chunk: an exponential times the reciprocal of the sum over all columns. -/
theorem och_apply (H : Held m X W) (c : Dev nD) (b : Fin 8) (h : Fin 2) (p : Fin 32) (q : Fin 4096) :
    och m c b h (ix2 p q) = ex X W (rowOf b p) (colOf h q) * Ideal.div 1 (∑ j : Fin 8192, ex X W (rowOf b p) j) := by
  have hS : sch m c b (ix2 p 0) + k0_pay35 (pch m (src c b) b) (ix2 p ⟨4096, by decide⟩) = ∑ j : Fin 8192, ex X W (rowOf b p) j := by
    rw [sch_apply H, pch_right H _ _ _ _ (by decide), hown_src]
    exact (Cert.Softmax.halves (ex X W (rowOf b p)) (hown c) (hoth c) (hoth_ne c).symm).symm
  unfold och
  by_cases e : h = hown c
  · rw [if_pos e, pay37_apply, hS, ech_apply H, e]
  · rw [if_neg e, pay38_apply, hS, pch_left H _ _ _ _ q.isLt, hown_src, half_cases c h e]

/-- The whole result at one row and one column. -/
theorem OV_apply (H : Held m X W) (c : Dev nD) (i : Fin 256) (j : Fin 8192) :
    OV m c (ix2 i j) = ex X W i j * Ideal.div 1 (∑ j : Fin 8192, ex X W i j) := by
  have e := och_apply H c (bO (ix2 i j)) (hO (ix2 i j)) ⟨i.val % 32, Nat.mod_lt _ (by decide)⟩ ⟨j.val % 4096, Nat.mod_lt _ (by decide)⟩
  have er : rowOf (bO (ix2 i j)) ⟨i.val % 32, Nat.mod_lt _ (by decide)⟩ = i := Fin.ext (Nat.div_add_mod i.val 32)
  have ec : colOf (hO (ix2 i j)) ⟨j.val % 4096, Nat.mod_lt _ (by decide)⟩ = j := Fin.ext (Nat.div_add_mod j.val 4096)
  rw [er, ec] at e
  refine Eq.trans (congrArg (och m c (bO (ix2 i j)) (hO (ix2 i j))) ?_) e
  funext a
  match a with
  | ⟨0, _⟩ => rfl
  | ⟨1, _⟩ => rfl

/-- Real arguments: the kernel's result is the reference's. -/
theorem OV_eq (H : Held m X W) (hX : ∀ i, ∃ r : ℝ, X i = r) (hW : ∀ i, ∃ r : ℝ, W i = r) (c : Dev nD) :
    OV m c = Cert.Reading.soft (Cert.Reading.logits X W) := by
  funext ij
  obtain ⟨i, j, rfl⟩ : ∃ (i : Fin 256) (j : Fin 8192), ij = ix2 i j := ⟨ij 0, ij 1, by
    funext a
    match a with
    | ⟨0, _⟩ => rfl
    | ⟨1, _⟩ => rfl⟩
  have hl : ∀ j : Fin 8192, ∃ r : ℝ, Cert.Reading.logits X W (ix2 i j) = (r : EReal) := fun j => by
    rw [Cert.Reading.logits_apply]
    exact Cert.Softmax.real_dot (fun k => hX _) fun k => hW _
  choose l hl using hl
  obtain ⟨M, hM⟩ := Cert.Softmax.real_max (n := 8191) l
  have hx : ∀ j : Fin 8192, ex X W i j = Ideal.exp (l j : EReal) := fun j => by
    rw [← hl j, Cert.Reading.logits_apply]; rfl
  rw [OV_apply H, Cert.Reading.soft_apply]
  simp only [hx, hl, hM]
  exact (Cert.Softmax.shift (n := 8191) l M j).symm

end Cert.KernelIdeal.Gen

namespace Cert.Proof

open Idealize.ShloMosaic Idealize.ShloMosaic.TcCoe Idealize.SL.Sem
open Cert.KernelIdeal.Gen

/-- The column block a device holds is its coordinate along the mesh's first axis. -/
theorem block_eq : ∀ c : Dev KernelIdeal.nD, ((Layout.meshBlock [2, 2, 4] ![[], [0]] c : (b : Fin 2) → _) 0).val = 0
    ∧ ((Layout.meshBlock [2, 2, 4] ![[], [0]] c : (b : Fin 2) → _) 1).val = (hown c).val := by decide

/-- A column lies in the half held by some device. -/
theorem col_held (j : Fin 8192) : ∃ (c : Dev KernelIdeal.nD) (q : Fin 4096), 4096 * (hown c).val + q.val = j.val := by
  refine ⟨⟨8 * (j.val / 4096), by have h : KernelIdeal.nD = 16 := rfl; omega⟩, ⟨j.val % 4096, Nat.mod_lt _ (by decide)⟩, ?_⟩
  show 4096 * (8 * (j.val / 4096) / 8) + j.val % 4096 = j.val
  omega

/-- On real arguments, the kernel's devices each end with the reference's softmax. -/
theorem algebraic : Cert.algebraic_KernelIdeal_ReferenceIdeal_pre_finite_KernelIdeal := by
  intro m g m' g' hp hm
  have H : Held m (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)) := by
    refine ⟨fun c i k => congrFun (hm c).1 (ix2 i k), fun c k q => (congrFun (hm c).2 (ix2 k q)).trans ?_⟩
    rw [Layout.blockN_apply]
    refine congrArg _ ?_
    funext a; apply Fin.ext
    rw [Layout.TilesN.idx_val]
    match a with
    | ⟨0, _⟩ =>
      show ((Layout.meshBlock [2, 2, 4] ![[], [0]] c : (b : Fin 2) → _) 0).val * 512 + k.val = k.val
      rw [(block_eq c).1]; omega
    | ⟨1, _⟩ =>
      show ((Layout.meshBlock [2, 2, 4] ![[], [0]] c : (b : Fin 2) → _) 1).val * 4096 + q.val = 4096 * (hown c).val + q.val
      rw [(block_eq c).2]; omega
  have hr := fun c => Cert.Reading.fn_real _ _ (hp c)
  refine ⟨Cert.Reading.soft (Cert.Reading.logits (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))), ?_, ?_⟩
  · refine (θ_run KernelIdeal.defs _ _).mono (fun r h c => ⟨(h.1 c).1.trans (OV_eq H ?_ ?_ c), (h.1 c).2⟩) (KernelIdeal.Gen.run_main m g)
    · intro i
      obtain ⟨x, hx⟩ := (hr 0).1 i
      exact ⟨x, (congrFun (hm 0).1 i).symm.trans hx⟩
    · intro i
      obtain ⟨d, q, e⟩ := col_held (i 1)
      obtain ⟨x, hx⟩ := (hr d).2 (ix2 (i 0) q)
      refine ⟨x, Eq.trans (congrArg _ ?_) ((H.2 d (i 0) q).symm.trans hx)⟩
      funext a; apply Fin.ext
      match a with
      | ⟨0, _⟩ => rfl
      | ⟨1, _⟩ => exact e.symm
  · exact (θ_run ReferenceIdeal.defs _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Result

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, preK, preR,
    frame_kernel, frame_ideal, fun m g _ => frame_ideal m g trivial, frame_reference, fun m g _ => frame_reference m g trivial,
    trivial, algebraic⟩

end Cert.Proof

end
